-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_positive_variance [hPre_finite_and_positive_variance : Cert.Pre_finite_and_positive_variance.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_positive_variance.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_finite_and_positive_variance.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_finite_and_positive_variance.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_finite_and_positive_variance.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_finite_and_positive_variance.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_finite_and_positive_variance.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_finite_and_positive_variance.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.1 = (fun _ => 1#1)
    ∧ (Cert.Pre_finite_and_positive_variance.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.1 = (fun _ => 1#1)
    ∧ (Cert.Pre_finite_and_positive_variance.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_positive_variance [hPre_finite_and_positive_variance : Cert.Pre_finite_and_positive_variance.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_positive_variance.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_finite_and_positive_variance.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_finite_and_positive_variance.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_finite_and_positive_variance.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_finite_and_positive_variance.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_finite_and_positive_variance.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_finite_and_positive_variance.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.1 = (fun _ => 1#1)
    ∧ (Cert.Pre_finite_and_positive_variance.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.1 = (fun _ => 1#1)
    ∧ (Cert.Pre_finite_and_positive_variance.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite_and_positive_variance [hKernelIdeal : Cert.KernelIdeal.Facts] [hPre_finite_and_positive_variance : Cert.Pre_finite_and_positive_variance.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_positive_variance m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite_and_positive_variance [hReferenceIdeal : Cert.ReferenceIdeal.Facts] [hPre_finite_and_positive_variance : Cert.Pre_finite_and_positive_variance.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_positive_variance m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_finite_and_positive_variance [hKernelIdeal : Cert.KernelIdeal.Facts] [hReferenceIdeal : Cert.ReferenceIdeal.Facts] [hPre_finite_and_positive_variance : Cert.Pre_finite_and_positive_variance.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_positive_variance m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_and_positive_variance : Cert.Pre_finite_and_positive_variance.Facts),
    quiescent_Kernel (hKernel := hKernel)
    ∧ quiescent_KernelIdeal (hKernelIdeal := hKernelIdeal)
    ∧ quiescent_KernelIdeal_pre_finite_and_positive_variance (hKernelIdeal := hKernelIdeal) (hPre_finite_and_positive_variance := hPre_finite_and_positive_variance)
    ∧ quiescent_ReferenceIdeal (hReferenceIdeal := hReferenceIdeal)
    ∧ quiescent_ReferenceIdeal_pre_finite_and_positive_variance (hReferenceIdeal := hReferenceIdeal) (hPre_finite_and_positive_variance := hPre_finite_and_positive_variance)
    ∧ preserves_Kernel_KernelIdeal
    ∧ algebraic_KernelIdeal_ReferenceIdeal_pre_finite_and_positive_variance (hKernelIdeal := hKernelIdeal) (hReferenceIdeal := hReferenceIdeal) (hPre_finite_and_positive_variance := hPre_finite_and_positive_variance)
-- ==== Pre_finite_and_positive_variance.lean ====
abbrev S2x64x180x200x5 : Shape := ⟨5, ![2, 64, 180, 200, 5]⟩
abbrev S64x64 : Shape := ⟨2, ![64, 64]⟩
abbrev S64 : Shape := ⟨1, ![64]⟩
abbrev S24x64 : Shape := ⟨2, ![24, 64]⟩
abbrev S24 : Shape := ⟨1, ![24]⟩
abbrev S42x64 : Shape := ⟨2, ![42, 64]⟩
abbrev S42 : Shape := ⟨1, ![42]⟩
abbrev S_ : Shape := ⟨0, ![]⟩

class Facts : Prop where
  bcast_S_S2x64x180x200x5 : S_.BroadcastsInDim S2x64x180x200x5 (![] : Fin 0 → Fin S2x64x180x200x5.rank)
  bcast_S_S64x64 : S_.BroadcastsInDim S64x64 (![] : Fin 0 → Fin S64x64.rank)
  bcast_S_S64 : S_.BroadcastsInDim S64 (![] : Fin 0 → Fin S64.rank)

variable [Facts]

def fn_part1 {F : FTy → Type} [FloatOps F] (main_arg11 : FVec F S64 .f32) (main_arg13 : FVec F S64 .f32) (main_arg14 : FVec F S64 .f32) (main_v2 : IVec S2x64x180x200x5 1) (main_v5 : IVec S64x64 1) (main_v8 : IVec S64 1) (main_v11 : IVec S64 1) (main_v15 : IVec S64 1) (main_v16 : FVec F S64x64 .f32) (main_cst_5 : FVec F S_ .f32) : IVec S2x64x180x200x5 1 × IVec S64x64 1 × IVec S64 1 × IVec S64 1 × IVec S64 1 × IVec S64x64 1 × IVec S64 1 × IVec S64 1 × IVec S64 1 :=
  let main_v17 : FVec F S64x64 .f32 := broadcastInDim S64x64 ![] bcast_S_S64x64 main_cst_5
  let main_v18 : IVec S64x64 1 := cmpf .olt main_v16 main_v17
  let main_v19 : FVec F S64 .f32 := Host.absf main_arg11
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_v22 : FVec F S64 .f32 := Host.absf main_arg13
  let main_cst_7 : FVec F S_ .f32 := constant S_ .f32 0x7F800000#32
  let main_v23 : FVec F S64 .f32 := broadcastInDim S64 ![] bcast_S_S64 main_cst_7
  let main_v24 : IVec S64 1 := cmpf .olt main_v22 main_v23
  let main_cst_8 : FVec F S_ .f32 := constant S_ .f32 0x3727C5AC#32
  let main_v25 : FVec F S64 .f32 := broadcastInDim S64 ![] bcast_S_S64 main_cst_8
  let main_v26 : FVec F S64 .f32 := addf main_arg14 main_v25
  let main_cst_9 : FVec F S_ .f32 := constant S_ .f32 0x00000000#32
  let main_v27 : FVec F S64 .f32 := broadcastInDim S64 ![] bcast_S_S64 main_cst_9
  let main_v28 : IVec S64 1 := cmpf .ogt main_v26 main_v27
  (main_v2, main_v5, main_v8, main_v11, main_v15, main_v18, main_v21, main_v24, main_v28)

def fn {F : FTy → Type} [FloatOps F] (main_arg0 : FVec F S2x64x180x200x5 .f32) (main_arg1 : FVec F S64x64 .f32) (main_arg2 : FVec F S64 .f32) (main_arg3 : FVec F S64 .f32) (main_arg4 : FVec F S64 .f32) (main_arg5 : FVec F S64 .f32) (main_arg6 : FVec F S64 .f32) (main_arg7 : FVec F S24x64 .f32) (main_arg8 : FVec F S24 .f32) (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S42x64 .f32) (main_arg16 : FVec F S42 .f32) : IVec S2x64x180x200x5 1 × IVec S64x64 1 × IVec S64 1 × IVec S64 1 × IVec S64 1 × IVec S64x64 1 × IVec S64 1 × IVec S64 1 × IVec S64 1 :=
  let main_v0 : FVec F S2x64x180x200x5 .f32 := Host.absf main_arg0
  let main_cst : FVec F S_ .f32 := constant S_ .f32 0x7F800000#32
  let main_v1 : FVec F S2x64x180x200x5 .f32 := broadcastInDim S2x64x180x200x5 ![] bcast_S_S2x64x180x200x5 main_cst
  let main_v2 : IVec S2x64x180x200x5 1 := cmpf .olt main_v0 main_v1
  let main_v3 : FVec F S64x64 .f32 := Host.absf main_arg1
  let main_cst_0 : FVec F S_ .f32 := constant S_ .f32 0x7F800000#32
  let main_v4 : FVec F S64x64 .f32 := broadcastInDim S64x64 ![] bcast_S_S64x64 main_cst_0
  let main_v5 : IVec S64x64 1 := cmpf .olt main_v3 main_v4
  let main_v6 : FVec F S64 .f32 := Host.absf main_arg3
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_cst_3 : FVec F S_ .f32 := constant S_ .f32 0x3727C5AC#32
  let main_v12 : FVec F S64 .f32 := broadcastInDim S64 ![] bcast_S_S64 main_cst_3
  let main_v13 : FVec F S64 .f32 := addf main_arg6 main_v12
  let main_cst_4 : FVec F S_ .f32 := constant S_ .f32 0x00000000#32
  let main_v14 : FVec F S64 .f32 := broadcastInDim S64 ![] bcast_S_S64 main_cst_4
  let main_v15 : IVec S64 1 := cmpf .ogt main_v13 main_v14
  let main_v16 : FVec F S64x64 .f32 := Host.absf main_arg9
  let main_cst_5 : FVec F S_ .f32 := constant S_ .f32 0x7F800000#32
  fn_part1 (F := F) main_arg11 main_arg13 main_arg14 main_v2 main_v5 main_v8 main_v11 main_v15 main_v16 main_cst_5
-- ==== Kernel.lean ====
abbrev S2x64x180x200x5 : Shape := ⟨5, ![2, 64, 180, 200, 5]⟩
abbrev S64x64 : Shape := ⟨2, ![64, 64]⟩
abbrev S64 : Shape := ⟨1, ![64]⟩
abbrev S24x64 : Shape := ⟨2, ![24, 64]⟩
abbrev S24 : Shape := ⟨1, ![24]⟩
abbrev S42x64 : Shape := ⟨2, ![42, 64]⟩
abbrev S42 : Shape := ⟨1, ![42]⟩
abbrev S36x5 : Shape := ⟨2, ![36, 5]⟩
abbrev S6 : Shape := ⟨1, ![6]⟩
abbrev S6x1 : Shape := ⟨2, ![6, 1]⟩
abbrev S2x180x5x64x200 : Shape := ⟨5, ![2, 180, 5, 64, 200]⟩
abbrev S_ : Shape := ⟨0, ![]⟩
abbrev S64x1 : Shape := ⟨2, ![64, 1]⟩
abbrev S24x1 : Shape := ⟨2, ![24, 1]⟩
abbrev S42x1 : Shape := ⟨2, ![42, 1]⟩
abbrev S2x180x5x24x200 : Shape := ⟨5, ![2, 180, 5, 24, 200]⟩
abbrev S2x180x5x42x200 : Shape := ⟨5, ![2, 180, 5, 42, 200]⟩
abbrev S1x12x1x64x200 : Shape := ⟨5, ![1, 12, 1, 64, 200]⟩
abbrev S1x12x1x24x200 : Shape := ⟨5, ![1, 12, 1, 24, 200]⟩
abbrev S1x12x1x42x200 : Shape := ⟨5, ![1, 12, 1, 42, 200]⟩
abbrev S1x200 : Shape := ⟨2, ![1, 200]⟩
abbrev S36x1 : Shape := ⟨2, ![36, 1]⟩
abbrev S36x200 : Shape := ⟨2, ![36, 200]⟩
abbrev S1x1x1x64x200 : Shape := ⟨5, ![1, 1, 1, 64, 200]⟩
abbrev S64x200 : Shape := ⟨2, ![64, 200]⟩
abbrev S24x200 : Shape := ⟨2, ![24, 200]⟩
abbrev S1x1x1x24x200 : Shape := ⟨5, ![1, 1, 1, 24, 200]⟩
abbrev S42x200 : Shape := ⟨2, ![42, 200]⟩
abbrev S6x200 : Shape := ⟨2, ![6, 200]⟩
abbrev S1x1x1x42x200 : Shape := ⟨5, ![1, 1, 1, 42, 200]⟩
abbrev S2x180x200x5x24 : Shape := ⟨5, ![2, 180, 200, 5, 24]⟩
abbrev S2x180x200x5x42 : Shape := ⟨5, ![2, 180, 200, 5, 42]⟩

abbrev nBuf : Space → Nat
  | .hbm => 72
  | .vmem => 16
  | .smem => 0
  | _ => 0

abbrev bufTy : (tb : Table) → Fin (tcTables nBuf tb) → BufTy
  | .hbm, ⟨0, _⟩ => ⟨S2x64x180x200x5, .f32⟩
  | .hbm, ⟨1, _⟩ => ⟨S64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S24x64, .f32⟩
  | .hbm, ⟨8, _⟩ => ⟨S24, .f32⟩
  | .hbm, ⟨9, _⟩ => ⟨S64x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S42x64, .f32⟩
  | .hbm, ⟨16, _⟩ => ⟨S42, .f32⟩
  | .hbm, ⟨17, _⟩ => ⟨S42, .i32⟩
  | .hbm, ⟨18, _⟩ => ⟨S36x5, .f32⟩
  | .hbm, ⟨19, _⟩ => ⟨S6, .f32⟩
  | .hbm, ⟨20, _⟩ => ⟨S6x1, .f32⟩
  | .hbm, ⟨21, _⟩ => ⟨S2x180x5x64x200, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S64x1, .f32⟩
  | .hbm, ⟨28, _⟩ => ⟨S64x64, .f32⟩
  | .hbm, ⟨29, _⟩ => ⟨S64x64, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S64x1, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S64x1, .f32⟩
  | .hbm, ⟨41, _⟩ => ⟨S64x64, .f32⟩
  | .hbm, ⟨42, _⟩ => ⟨S64x64, .f32⟩
  | .hbm, ⟨43, _⟩ => ⟨S64, .f32⟩
  | .hbm, ⟨44, _⟩ => ⟨S64, .f32⟩
  | .hbm, ⟨45, _⟩ => ⟨S64, .f32⟩
  | .hbm, ⟨46, _⟩ => ⟨S64, .f32⟩
  | .hbm, ⟨47, _⟩ => ⟨S64x1, .f32⟩
  | .hbm, ⟨48, _⟩ => ⟨S24x1, .f32⟩
  | .hbm, ⟨49, _⟩ => ⟨S_, .i32⟩
  | .hbm, ⟨50, _⟩ => ⟨S42, .i32⟩
  | .hbm, ⟨51, _⟩ => ⟨S42, .i1⟩
  | .hbm, ⟨52, _⟩ => ⟨S_, .i32⟩
  | .hbm, ⟨53, _⟩ => ⟨S42, .i32⟩
  | .hbm, ⟨54, _⟩ => ⟨S42, .i32⟩
  | .hbm, ⟨55, _⟩ => ⟨S42, .i32⟩
  | .hbm, ⟨56, _⟩ => ⟨S42x1, .i32⟩
  | .hbm, ⟨57, _⟩ => ⟨S42x64, .f32⟩
  | .hbm, ⟨58, _⟩ => ⟨S_, .i32⟩
  | .hbm, ⟨59, _⟩ => ⟨S42, .i32⟩
  | .hbm, ⟨60, _⟩ => ⟨S42, .i1⟩
  | .hbm, ⟨61, _⟩ => ⟨S_, .i32⟩
  | .hbm, ⟨62, _⟩ => ⟨S42, .i32⟩
  | .hbm, ⟨63, _⟩ => ⟨S42, .i32⟩
  | .hbm, ⟨64, _⟩ => ⟨S42, .i32⟩
  | .hbm, ⟨65, _⟩ => ⟨S42x1, .i32⟩
  | .hbm, ⟨66, _⟩ => ⟨S42, .f32⟩
  | .hbm, ⟨67, _⟩ => ⟨S42x1, .f32⟩
  | .hbm, ⟨68, _⟩ => ⟨S2x180x5x24x200, .f32⟩
  | .hbm, ⟨69, _⟩ => ⟨S2x180x5x42x200, .f32⟩
  | .hbm, ⟨70, _⟩ => ⟨S2x180x200x5x24, .f32⟩
  | .hbm, ⟨71, _⟩ => ⟨S2x180x200x5x42, .f32⟩
  | .local _ .vmem, ⟨0, _⟩ => ⟨S1x12x1x64x200, .f32⟩
  | .local _ .vmem, ⟨1, _⟩ => ⟨S1x12x1x64x200, .f32⟩
  | .local _ .vmem, ⟨2, _⟩ => ⟨S64x64, .f32⟩
  | .local _ .vmem, ⟨3, _⟩ => ⟨S64x1, .f32⟩
  | .local _ .vmem, ⟨4, _⟩ => ⟨S24x64, .f32⟩
  | .local _ .vmem, ⟨5, _⟩ => ⟨S24x1, .f32⟩
  | .local _ .vmem, ⟨6, _⟩ => ⟨S64x64, .f32⟩
  | .local _ .vmem, ⟨7, _⟩ => ⟨S64x1, .f32⟩
  | .local _ .vmem, ⟨8, _⟩ => ⟨S42x64, .f32⟩
  | .local _ .vmem, ⟨9, _⟩ => ⟨S42x1, .f32⟩
  | .local _ .vmem, ⟨10, _⟩ => ⟨S36x5, .f32⟩
  | .local _ .vmem, ⟨11, _⟩ => ⟨S6x1, .f32⟩
  | .local _ .vmem, ⟨12, _⟩ => ⟨S1x12x1x24x200, .f32⟩
  | .local _ .vmem, ⟨13, _⟩ => ⟨S1x12x1x24x200, .f32⟩
  | .local _ .vmem, ⟨14, _⟩ => ⟨S1x12x1x42x200, .f32⟩
  | .local _ .vmem, ⟨15, _⟩ => ⟨S1x12x1x42x200, .f32⟩
  | _, _ => ⟨S2x64x180x200x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_cst : Ref sig .tc := ⟨.hbm, 18, rfl⟩
abbrev main_cst_0 : Ref sig .tc := ⟨.hbm, 19, rfl⟩
abbrev main_v0 : Ref sig .tc := ⟨.hbm, 20, rfl⟩
abbrev main_v1 : Ref sig .tc := ⟨.hbm, 21, rfl⟩
abbrev main_cst_1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_3 : Ref sig .tc := ⟨.hbm, 49, rfl⟩
abbrev main_v27 : Ref sig .tc := ⟨.hbm, 50, rfl⟩
abbrev main_v28 : Ref sig .tc := ⟨.hbm, 51, rfl⟩
abbrev main_c_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_5 : Ref sig .tc := ⟨.hbm, 58, rfl⟩
abbrev main_v34 : Ref sig .tc := ⟨.hbm, 59, rfl⟩
abbrev main_v35 : Ref sig .tc := ⟨.hbm, 60, rfl⟩
abbrev main_c_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42_0 : Ref sig .tc := ⟨.hbm, 68, rfl⟩
abbrev main_v42_1 : Ref sig .tc := ⟨.hbm, 69, rfl⟩
abbrev main_v43 : Ref sig .tc := ⟨.hbm, 70, rfl⟩
abbrev main_v44 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨3, ![2, 15, 5], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_12 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x12x1x64x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S24x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S24x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S42x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S42x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S36x5 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S6x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S1x12x1x24x200 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x12x1x42x200 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== ReferenceIdeal.lean ====
abbrev S2x64x180x200x5 : Shape := ⟨5, ![2, 64, 180, 200, 5]⟩
abbrev S64x64 : Shape := ⟨2, ![64, 64]⟩
abbrev S64 : Shape := ⟨1, ![64]⟩
abbrev S24x64 : Shape := ⟨2, ![24, 64]⟩
abbrev S24 : Shape := ⟨1, ![24]⟩
abbrev S42x64 : Shape := ⟨2, ![42, 64]⟩
abbrev S42 : Shape := ⟨1, ![42]⟩
abbrev S3 : Shape := ⟨1, ![3]⟩
abbrev S6x4 : Shape := ⟨2, ![6, 4]⟩
abbrev S6 : Shape := ⟨1, ![6]⟩
abbrev S180 : Shape := ⟨1, ![180]⟩
abbrev S_ : Shape := ⟨0, ![]⟩
abbrev S200 : Shape := ⟨1, ![200]⟩
abbrev S5 : Shape := ⟨1, ![5]⟩
abbrev S180x200x5 : Shape := ⟨3, ![180, 200, 5]⟩
abbrev S180x200x5x1 : Shape := ⟨4, ![180, 200, 5, 1]⟩
abbrev S180x200x5x3 : Shape := ⟨4, ![180, 200, 5, 3]⟩
abbrev S1x1x1x3 : Shape := ⟨4, ![1, 1, 1, 3]⟩
abbrev S180x200x5x1x3 : Shape := ⟨5, ![180, 200, 5, 1, 3]⟩
abbrev S180x200x5x6x3 : Shape := ⟨5, ![180, 200, 5, 6, 3]⟩
abbrev S180x200x5x6x4 : Shape := ⟨5, ![180, 200, 5, 6, 4]⟩
abbrev S180x200x5x6x7 : Shape := ⟨5, ![180, 200, 5, 6, 7]⟩
abbrev S64x2x180x200x5 : Shape := ⟨5, ![64, 2, 180, 200, 5]⟩
abbrev S1x64x1x1x1 : Shape := ⟨5, ![1, 64, 1, 1, 1]⟩
abbrev S24x2x180x200x5 : Shape := ⟨5, ![24, 2, 180, 200, 5]⟩
abbrev S2x24x180x200x5 : Shape := ⟨5, ![2, 24, 180, 200, 5]⟩
abbrev S1x24x1x1x1 : Shape := ⟨5, ![1, 24, 1, 1, 1]⟩
abbrev S42x2x180x200x5 : Shape := ⟨5, ![42, 2, 180, 200, 5]⟩
abbrev S2x42x180x200x5 : Shape := ⟨5, ![2, 42, 180, 200, 5]⟩
abbrev S1x42x1x1x1 : Shape := ⟨5, ![1, 42, 1, 1, 1]⟩
abbrev S2x180x200x5x24 : Shape := ⟨5, ![2, 180, 200, 5, 24]⟩
abbrev S2x180x200x5x42 : Shape := ⟨5, ![2, 180, 200, 5, 42]⟩
abbrev S2x180x200x5x6x7 : Shape := ⟨6, ![2, 180, 200, 5, 6, 7]⟩
abbrev S2x180x200x5x6x3 : Shape := ⟨6, ![2, 180, 200, 5, 6, 3]⟩
abbrev S1x180x200x5x6x3 : Shape := ⟨6, ![1, 180, 200, 5, 6, 3]⟩
abbrev S2x180x200x5x6x1 : Shape := ⟨6, ![2, 180, 200, 5, 6, 1]⟩
abbrev S2x180x200x5x6 : Shape := ⟨5, ![2, 180, 200, 5, 6]⟩
abbrev S1x1x1x1x6 : Shape := ⟨5, ![1, 1, 1, 1, 6]⟩

abbrev nBuf : Space → Nat
  | .hbm => 149
  | .vmem => 0
  | .smem => 0
  | _ => 0

abbrev hbmTy0_0 (i : Nat) : BufTy := match i % 128 with
  | 0 => ⟨S2x64x180x200x5, .f32⟩
  | 1 => ⟨S64x64, .f32⟩
  | 2 => ⟨S64, .f32⟩
  | 3 => ⟨S64, .f32⟩
  | 4 => ⟨S64, .f32⟩
  | 5 => ⟨S64, .f32⟩
  | 6 => ⟨S64, .f32⟩
  | 7 => ⟨S24x64, .f32⟩
  | 8 => ⟨S24, .f32⟩
  | 9 => ⟨S64x64, .f32⟩
  | 10 => ⟨S64, .f32⟩
  | 11 => ⟨S64, .f32⟩
  | 12 => ⟨S64, .f32⟩
  | 13 => ⟨S64, .f32⟩
  | 14 => ⟨S64, .f32⟩
  | 15 => ⟨S42x64, .f32⟩
  | 16 => ⟨S42, .f32⟩
  | 17 => ⟨S3, .f32⟩
  | 18 => ⟨S6x4, .f32⟩
  | 19 => ⟨S6, .f32⟩
  | 20 => ⟨S180, .f32⟩
  | 21 => ⟨S_, .f32⟩
  | 22 => ⟨S180, .f32⟩
  | 23 => ⟨S180, .f32⟩
  | 24 => ⟨S_, .f32⟩
  | 25 => ⟨S180, .f32⟩
  | 26 => ⟨S180, .f32⟩
  | 27 => ⟨S200, .f32⟩
  | 28 => ⟨S_, .f32⟩
  | 29 => ⟨S200, .f32⟩
  | 30 => ⟨S200, .f32⟩
  | 31 => ⟨S_, .f32⟩
  | 32 => ⟨S200, .f32⟩
  | 33 => ⟨S200, .f32⟩
  | 34 => ⟨S5, .f32⟩
  | 35 => ⟨S_, .f32⟩
  | 36 => ⟨S5, .f32⟩
  | 37 => ⟨S5, .f32⟩
  | 38 => ⟨S_, .f32⟩
  | 39 => ⟨S5, .f32⟩
  | 40 => ⟨S5, .f32⟩
  | 41 => ⟨S180x200x5, .f32⟩
  | 42 => ⟨S180x200x5, .f32⟩
  | 43 => ⟨S180x200x5, .f32⟩
  | 44 => ⟨S180x200x5x1, .f32⟩
  | 45 => ⟨S180x200x5x1, .f32⟩
  | 46 => ⟨S180x200x5x1, .f32⟩
  | 47 => ⟨S180x200x5x3, .f32⟩
  | 48 => ⟨S1x1x1x3, .f32⟩
  | 49 => ⟨S180x200x5x3, .f32⟩
  | 50 => ⟨S180x200x5x3, .f32⟩
  | 51 => ⟨S180x200x5x1x3, .f32⟩
  | 52 => ⟨S180x200x5x6x3, .f32⟩
  | 53 => ⟨S180x200x5x6x4, .f32⟩
  | 54 => ⟨S180x200x5x6x7, .f32⟩
  | 55 => ⟨S64x2x180x200x5, .f32⟩
  | 56 => ⟨S2x64x180x200x5, .f32⟩
  | 57 => ⟨S1x64x1x1x1, .f32⟩
  | 58 => ⟨S2x64x180x200x5, .f32⟩
  | 59 => ⟨S2x64x180x200x5, .f32⟩
  | 60 => ⟨S_, .f32⟩
  | 61 => ⟨S64, .f32⟩
  | 62 => ⟨S64, .f32⟩
  | 63 => ⟨S64, .f32⟩
  | 64 => ⟨S1x64x1x1x1, .f32⟩
  | 65 => ⟨S2x64x180x200x5, .f32⟩
  | 66 => ⟨S2x64x180x200x5, .f32⟩
  | 67 => ⟨S64, .f32⟩
  | 68 => ⟨S1x64x1x1x1, .f32⟩
  | 69 => ⟨S2x64x180x200x5, .f32⟩
  | 70 => ⟨S2x64x180x200x5, .f32⟩
  | 71 => ⟨S1x64x1x1x1, .f32⟩
  | 72 => ⟨S2x64x180x200x5, .f32⟩
  | 73 => ⟨S2x64x180x200x5, .f32⟩
  | 74 => ⟨S_, .f32⟩
  | 75 => ⟨S2x64x180x200x5, .f32⟩
  | 76 => ⟨S2x64x180x200x5, .f32⟩
  | 77 => ⟨S24x2x180x200x5, .f32⟩
  | 78 => ⟨S2x24x180x200x5, .f32⟩
  | 79 => ⟨S1x24x1x1x1, .f32⟩
  | 80 => ⟨S2x24x180x200x5, .f32⟩
  | 81 => ⟨S2x24x180x200x5, .f32⟩
  | 82 => ⟨S64x2x180x200x5, .f32⟩
  | 83 => ⟨S2x64x180x200x5, .f32⟩
  | 84 => ⟨S1x64x1x1x1, .f32⟩
  | 85 => ⟨S2x64x180x200x5, .f32⟩
  | 86 => ⟨S2x64x180x200x5, .f32⟩
  | 87 => ⟨S_, .f32⟩
  | 88 => ⟨S64, .f32⟩
  | 89 => ⟨S64, .f32⟩
  | 90 => ⟨S64, .f32⟩
  | 91 => ⟨S1x64x1x1x1, .f32⟩
  | 92 => ⟨S2x64x180x200x5, .f32⟩
  | 93 => ⟨S2x64x180x200x5, .f32⟩
  | 94 => ⟨S64, .f32⟩
  | 95 => ⟨S1x64x1x1x1, .f32⟩
  | 96 => ⟨S2x64x180x200x5, .f32⟩
  | 97 => ⟨S2x64x180x200x5, .f32⟩
  | 98 => ⟨S1x64x1x1x1, .f32⟩
  | 99 => ⟨S2x64x180x200x5, .f32⟩
  | 100 => ⟨S2x64x180x200x5, .f32⟩
  | 101 => ⟨S_, .f32⟩
  | 102 => ⟨S2x64x180x200x5, .f32⟩
  | 103 => ⟨S2x64x180x200x5, .f32⟩
  | 104 => ⟨S42x2x180x200x5, .f32⟩
  | 105 => ⟨S2x42x180x200x5, .f32⟩
  | 106 => ⟨S1x42x1x1x1, .f32⟩
  | 107 => ⟨S2x42x180x200x5, .f32⟩
  | 108 => ⟨S2x42x180x200x5, .f32⟩
  | 109 => ⟨S2x180x200x5x24, .f32⟩
  | 110 => ⟨S2x180x200x5x42, .f32⟩
  | 111 => ⟨S2x180x200x5x6x7, .f32⟩
  | 112 => ⟨S2x180x200x5x6x3, .f32⟩
  | 113 => ⟨S180x200x5x6x3, .f32⟩
  | 114 => ⟨S1x180x200x5x6x3, .f32⟩
  | 115 => ⟨S2x180x200x5x6x3, .f32⟩
  | 116 => ⟨S2x180x200x5x6x3, .f32⟩
  | 117 => ⟨S180x200x5x6x3, .f32⟩
  | 118 => ⟨S1x180x200x5x6x3, .f32⟩
  | 119 => ⟨S2x180x200x5x6x3, .f32⟩
  | 120 => ⟨S2x180x200x5x6x3, .f32⟩
  | 121 => ⟨S2x180x200x5x6x3, .f32⟩
  | 122 => ⟨S2x180x200x5x6x3, .f32⟩
  | 123 => ⟨S180x200x5x6x3, .f32⟩
  | 124 => ⟨S1x180x200x5x6x3, .f32⟩
  | 125 => ⟨S2x180x200x5x6x3, .f32⟩
  | 126 => ⟨S2x180x200x5x6x3, .f32⟩
  | 127 => ⟨S2x180x200x5x6x1, .f32⟩
  | _ => ⟨S2x64x180x200x5, .f32⟩

abbrev hbmTy0_1 (i : Nat) : BufTy := match i % 128 with
  | 0 => ⟨S2x180x200x5x6, .f32⟩
  | 1 => ⟨S2x180x200x5x6, .f32⟩
  | 2 => ⟨S2x180x200x5x6, .f32⟩
  | 3 => ⟨S_, .f32⟩
  | 4 => ⟨S2x180x200x5x6, .f32⟩
  | 5 => ⟨S2x180x200x5x6, .f32⟩
  | 6 => ⟨S_, .f32⟩
  | 7 => ⟨S2x180x200x5x6, .f32⟩
  | 8 => ⟨S2x180x200x5x6, .f32⟩
  | 9 => ⟨S1x1x1x1x6, .f32⟩
  | 10 => ⟨S2x180x200x5x6, .f32⟩
  | 11 => ⟨S2x180x200x5x6, .f32⟩
  | 12 => ⟨S2x180x200x5x6, .f32⟩
  | 13 => ⟨S_, .f32⟩
  | 14 => ⟨S2x180x200x5x6, .f32⟩
  | 15 => ⟨S2x180x200x5x6, .f32⟩
  | 16 => ⟨S2x180x200x5x6, .f32⟩
  | 17 => ⟨S2x180x200x5x6, .f32⟩
  | 18 => ⟨S2x180x200x5x6x1, .f32⟩
  | 19 => ⟨S2x180x200x5x6x7, .f32⟩
  | 20 => ⟨S2x180x200x5x42, .f32⟩
  | _ => ⟨S2x64x180x200x5, .f32⟩

abbrev hbmTy (i : Nat) : BufTy := match i / 128 with
  | 0 => hbmTy0_0 i
  | 1 => hbmTy0_1 i
  | _ => ⟨S2x64x180x200x5, .f32⟩

abbrev bufTy : (tb : Table) → Fin (tcTables nBuf tb) → BufTy
  | .hbm, ⟨i, _⟩ => hbmTy i
  | _, _ => ⟨S2x64x180x200x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_cst_0 : Ref sig .tc := ⟨.hbm, 18, rfl⟩
abbrev main_cst_1 : Ref sig .tc := ⟨.hbm, 19, rfl⟩
abbrev main_v0 : Ref sig .tc := ⟨.hbm, 20, rfl⟩
abbrev main_cst_2 : Ref sig .tc := ⟨.hbm, 21, rfl⟩
abbrev main_v1 : Ref sig .tc := ⟨.hbm, 22, rfl⟩
abbrev main_v2 : Ref sig .tc := ⟨.hbm, 23, rfl⟩
abbrev main_cst_3 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_cst_4 : Ref sig .tc := ⟨.hbm, 28, rfl⟩
abbrev main_v6 : Ref sig .tc := ⟨.hbm, 29, rfl⟩
abbrev main_v7 : Ref sig .tc := ⟨.hbm, 30, rfl⟩
abbrev main_cst_5 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_6 : Ref sig .tc := ⟨.hbm, 35, rfl⟩
abbrev main_v11 : Ref sig .tc := ⟨.hbm, 36, rfl⟩
abbrev main_v12 : Ref sig .tc := ⟨.hbm, 37, rfl⟩
abbrev main_cst_7 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call0_cst : Ref sig .tc := ⟨.hbm, 74, rfl⟩
abbrev main_call0_v0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_call1_cst : Ref sig .tc := ⟨.hbm, 101, rfl⟩
abbrev main_call1_v0 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_10 : Ref sig .tc := ⟨.hbm, 131, rfl⟩
abbrev main_v99 : Ref sig .tc := ⟨.hbm, 132, rfl⟩
abbrev main_v100 : Ref sig .tc := ⟨.hbm, 133, rfl⟩
abbrev main_cst_11 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_12 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩

abbrev nD : Nat := 1
abbrev τ : Topo := Topo.v7x

variable {F : FTy → Type} [FloatOps F]
-- ==== Proof.Rows.lean ====
/-
  The kernel's body works on twelve rows of the first spatial axis, one after another, and stores one class row and one
  box row for each. Here the work on one row is written once: `clsRow` for the class scores and `boxRow` for the decoded
  boxes, each a function of the row loaded from the input, of the two layers' weights and of the decoding tables. The
  body's twelve class stores are then twelve rows `clsRow`, and its twelve box stores twelve rows `boxRow`.
-/
module

public import proofs.«01_k».proof.Proof.Gen.KernelIdeal.Frame

@[expose] public section

set_option maxRecDepth 16384

noncomputable section

namespace Cert.KernelIdeal.Rows

open Idealize.ShloMosaic
open Cert.KernelIdeal Cert.KernelIdeal.Gen

variable {F : FTy → Type} [FloatOps F]

/-- The first layer of a head on one row: weights times channels, plus the bias, clamped below at zero. -/
def hidden (w : Vec F S64x64 .f32) (b : Vec F S64x1 .f32) (v : Vec F S1x1x1x64x200 .f32) : FVec F S64x200 .f32 :=
  maximumf
    (addf
      (matmul dot_S64x64_S64x200_S64x200_1_0_0_1_n_n none (shapeCast S64x64 w shapeCasts_S64x64_S64x64)
        (shapeCast S64x200 v shapeCasts_S1x1x1x64x200_S64x200 : FVec F S64x200 .f32) (constant S64x200 .f32 0x00000000#32))
      (broadcastTo S64x200 (shapeCast S64x1 b shapeCasts_S64x1_S64x1) broadcasts_S64x1_S64x200))
    (broadcast S64x200 (Scalar.ofBits .f32 0x00000000#32 : F .f32))

/-- The class scores of one row: the second layer on the hidden row, plus its bias. -/
def clsRow (w1 : Vec F S64x64 .f32) (b1 : Vec F S64x1 .f32) (w2 : Vec F S24x64 .f32) (b2 : Vec F S24x1 .f32)
    (v : Vec F S1x1x1x64x200 .f32) : Vec F S1x1x1x24x200 .f32 :=
  shapeCast S1x1x1x24x200
    (addf
      (matmul dot_S24x64_S64x200_S24x200_1_0_0_1_n_n none w2 (hidden w1 b1 v) (constant S24x200 .f32 0x00000000#32))
      (broadcastTo S24x200 (shapeCast S24x1 b2 shapeCasts_S24x1_S24x1) broadcasts_S24x1_S24x200) : FVec F S24x200 .f32)
    shapeCasts_S24x200_S1x1x1x24x200

/-- The raw box offsets of one row, the channels in the order of the permuted weights. -/
def regRow (w1 : Vec F S64x64 .f32) (b1 : Vec F S64x1 .f32) (w2 : Vec F S42x64 .f32) (b2 : Vec F S42x1 .f32)
    (v : Vec F S1x1x1x64x200 .f32) : FVec F S42x200 .f32 :=
  addf
    (matmul dot_S42x64_S64x200_S42x200_1_0_0_1_n_n none (shapeCast S42x64 w2 shapeCasts_S42x64_S42x64) (hidden w1 b1 v)
      (constant S42x200 .f32 0x00000000#32))
    (broadcastTo S42x200 (shapeCast S42x1 b2 shapeCasts_S42x1_S42x1) broadcasts_S42x1_S42x200)

/-- The first coordinate of the anchor centre at index `g` of the first spatial axis. -/
def centerX (g : BitVec 32) : F .f32 :=
  Scalar.addf
    (Scalar.addf (Scalar.ofBits .f32 0x00000000#32)
      (Scalar.mulf (Scalar.ofBits .f32 0x3ECCCCCD#32) (Scalar.sitofp .f32 g)))
    (Scalar.ofBits .f32 0x3E4CCCCD#32)

/-- The decoded position and size channels of one row: `offset * size + centre` where the table says position, and
    `exp offset * size` where it does not. -/
def placed (g : BitVec 32) (mult : Vec F S36x1 .f32) (isPos : IVec S36x1 1) (yz : FVec F S36x200 .f32)
    (selX : Vec F S36x1 .f32) (p : FVec F S36x200 .f32) : FVec F S36x200 .f32 :=
  select (broadcastTo S36x200 (shapeCast S36x1 isPos shapeCasts_S36x1_S36x1) broadcasts_S36x1_S36x200)
    (addf (mulf p (broadcastTo S36x200 mult broadcasts_S36x1_S36x200))
      (addf yz (broadcastTo S36x200 (mulf (broadcast S36x1 (centerX g)) selX) broadcasts_S36x1_S36x200)))
    (mulf (exp p) (broadcastTo S36x200 mult broadcasts_S36x1_S36x200))

/-- The logistic of the offset times the cosine of the anchor's angle. -/
def cosine (cosA : Vec F S6x1 .f32) (p : FVec F S6x200 .f32) : FVec F S6x200 .f32 :=
  mulf (logistic p) (broadcastTo S6x200 cosA broadcasts_S6x1_S6x200)

/-- The decoded angles of one row. -/
def angle (cosA : Vec F S6x1 .f32) (p : FVec F S6x200 .f32) : FVec F S6x200 .f32 :=
  atan2 (cosine cosA p)
    (sqrt (subf (broadcast S6x200 (Scalar.ofBits .f32 0x3F800000#32 : F .f32)) (mulf (cosine cosA p) (cosine cosA p))))

/-- Six position and size channels and then the angle, for each of the six anchors in turn. -/
def interleave (q : FVec F S36x200 .f32) (a : FVec F S6x200 .f32) : FVec F S42x200 .f32 :=
  concatenate S42x200 0
    [⟨S6x200, extractStridedSlice S6x200 ![0, 0] q slices_S36x200_o0_0_S6x200⟩,
     ⟨S1x200, extractStridedSlice S1x200 ![0, 0] a slices_S6x200_o0_0_S1x200⟩,
     ⟨S6x200, extractStridedSlice S6x200 ![6, 0] q slices_S36x200_o6_0_S6x200⟩,
     ⟨S1x200, extractStridedSlice S1x200 ![1, 0] a slices_S6x200_o1_0_S1x200⟩,
     ⟨S6x200, extractStridedSlice S6x200 ![12, 0] q slices_S36x200_o12_0_S6x200⟩,
     ⟨S1x200, extractStridedSlice S1x200 ![2, 0] a slices_S6x200_o2_0_S1x200⟩,
     ⟨S6x200, extractStridedSlice S6x200 ![18, 0] q slices_S36x200_o18_0_S6x200⟩,
     ⟨S1x200, extractStridedSlice S1x200 ![3, 0] a slices_S6x200_o3_0_S1x200⟩,
     ⟨S6x200, extractStridedSlice S6x200 ![24, 0] q slices_S36x200_o24_0_S6x200⟩,
     ⟨S1x200, extractStridedSlice S1x200 ![4, 0] a slices_S6x200_o4_0_S1x200⟩,
     ⟨S6x200, extractStridedSlice S6x200 ![30, 0] q slices_S36x200_o30_0_S6x200⟩,
     ⟨S1x200, extractStridedSlice S1x200 ![5, 0] a slices_S6x200_o5_0_S1x200⟩]
    concatenates_S6x200_S1x200_S6x200_S1x200_S6x200_S1x200_S6x200_S1x200_S6x200_S1x200_S6x200_S1x200_S42x200_d0

/-- The decoded boxes of one row, from the raw offsets `p` of that row. -/
def decode (g : BitVec 32) (mult : Vec F S36x1 .f32) (isPos : IVec S36x1 1) (yz : FVec F S36x200 .f32)
    (selX : Vec F S36x1 .f32) (cosA : Vec F S6x1 .f32) (p : FVec F S42x200 .f32) : FVec F S42x200 .f32 :=
  interleave
    (placed g mult isPos yz selX (extractStridedSlice S36x200 ![0, 0] p slices_S42x200_o0_0_S36x200))
    (angle cosA (extractStridedSlice S6x200 ![36, 0] p slices_S42x200_o36_0_S6x200))

/-- The anchor centre's second and third coordinates at index `z` of the third spatial axis and every index of the second,
    each taken where the table selects it. -/
def centerYZ (z : BitVec 32) (selY selZ : Vec F S36x1 .f32) : FVec F S36x200 .f32 :=
  addf
    (mulf
      (broadcastTo S36x200
        (addf
          (addf (broadcast S1x200 (Scalar.ofBits .f32 0xC2200000#32 : F .f32))
            (mulf (broadcast S1x200 (Scalar.ofBits .f32 0x3ECCCCCD#32 : F .f32))
              (sitofp .f32 (iota .tc S1x200 32 [1] iota_S1x200_d1_w32))))
          (broadcast S1x200 (Scalar.ofBits .f32 0x3E4CCCCD#32 : F .f32)) : FVec F S1x200 .f32)
        broadcasts_S1x200_S36x200)
      (broadcastTo S36x200 selY broadcasts_S36x1_S36x200))
    (broadcastTo S36x200
      (mulf
        (broadcast S36x1
          (Scalar.addf
            (Scalar.addf (Scalar.ofBits .f32 0xC0800000#32)
              (Scalar.mulf (Scalar.ofBits .f32 0x3FCCCCCD#32) (Scalar.sitofp .f32 z)))
            (Scalar.ofBits .f32 0x3F4CCCCD#32) : F .f32))
        selZ : FVec F S36x1 .f32)
      broadcasts_S36x1_S36x200)

/-- Whether a channel is a position: the table's entry is above one half. -/
def isPosition (v : Vec F S36x1 .f32) : IVec S36x1 1 :=
  cmpf .ogt v (broadcast S36x1 (Scalar.ofBits .f32 0x3F000000#32 : F .f32))

/-- The box row at index `g` of the first spatial axis and index `z` of the third, from the row `v` of the input. -/
def boxRow (g z : BitVec 32) (w1 : Vec F S64x64 .f32) (b1 : Vec F S64x1 .f32) (w2 : Vec F S42x64 .f32)
    (b2 : Vec F S42x1 .f32) (tab : Vec F S36x5 .f32) (cosA : Vec F S6x1 .f32) (v : Vec F S1x1x1x64x200 .f32) :
    Vec F S1x1x1x42x200 .f32 :=
  shapeCast S1x1x1x42x200
    (decode g (View.ld tab r0_0) (isPosition (View.ld tab r0_1)) (centerYZ z (View.ld tab r0_2) (View.ld tab r0_3))
      (View.ld tab r0_4) cosA (regRow w1 b1 w2 b2 v))
    shapeCasts_S42x200_S1x1x1x42x200

section Stores

variable (i : grid0.Coords) (x0 : Vec F S1x12x1x64x200 .f32) (x1 : Vec F S64x64 .f32) (x2 : Vec F S64x1 .f32)
  (x3 : Vec F S24x64 .f32) (x4 : Vec F S24x1 .f32) (x5 : Vec F S64x64 .f32) (x6 : Vec F S64x1 .f32)
  (x7 : Vec F S42x64 .f32) (x8 : Vec F S42x1 .f32) (x9 : Vec F S36x5 .f32) (x10 : Vec F S6x1 .f32)

/-- Row `k` lies inside the block, for each of the twelve rows. -/
theorem row_inb (n : Nat) (k : Fin 12) (a : Fin 5) :
    (![0, 11 - k.val, 0, 0, 0] : Fin 5 → Nat) a + (![1, 1, 1, n, 200] : Fin 5 → Nat) a
      ≤ (![1, 12, 1, n, 200] : Fin 5 → Nat) a := by
  have h := k.isLt
  fin_cases a <;> simp

/-- Row `11 - k` of the input block. -/
abbrev rowIn (k : Fin 12) : Rect S1x12x1x64x200 :=
  Rect.unit (s := S1x12x1x64x200) ![0, 11 - k.val, 0, 0, 0] S1x1x1x64x200.size (row_inb 64 k)

/-- The class block that the body leaves is its twelve class rows, the last first. -/
theorem out_cls : out0_11 i x0 x1 x2 x3 x4 x5 x6 x7 x8 x9 x10
    = View.canon (List.ofFn fun k : Fin 12 =>
        (⟨Rect.unit (s := S1x12x1x24x200) ![0, 11 - k.val, 0, 0, 0] S1x1x1x24x200.size (row_inb 24 k),
          clsRow (View.ld x1 r0_7) (View.ld x2 r0_8) (View.ld x3 r0_9) (View.ld x4 r0_10) (View.ld x0 (rowIn k))⟩ :
          View.Piece (Elt F) S1x12x1x24x200 .f32)) := rfl

/-- The box block that the body leaves is its twelve box rows, the last first: row `11 - k` of the block at grid point `i`
    is row `12 * i₁ + 11 - k` of the first spatial axis. -/
theorem out_box : out0_12 i x0 x1 x2 x3 x4 x5 x6 x7 x8 x9 x10
    = View.canon (List.ofFn fun k : Fin 12 =>
        (⟨Rect.unit (s := S1x12x1x42x200) ![0, 11 - k.val, 0, 0, 0] S1x1x1x42x200.size (row_inb 42 k),
          boxRow (Scalar.addi (Scalar.muli (BitVec.ofNat 32 (i 1).val) 12#32) (BitVec.ofNat 32 (11 - k.val)))
            (BitVec.ofNat 32 (i 2).val) (View.ld x5 r0_7) (View.ld x6 r0_8) (View.ld x7 r0_12) (View.ld x8 r0_13) x9
            (View.ld x10 r0_5) (View.ld x0 (rowIn k))⟩ :
          View.Piece (Elt F) S1x12x1x42x200 .f32)) := rfl

end Stores

end Cert.KernelIdeal.Rows

end
-- ==== Proof.Prefix.lean ====
/-
  What the host computes before the kernel is launched: the normalisation folded into the first layer's weights and bias
  (`foldW`, `foldB`), the second box layer's rows and bias reordered (`permW`, `permB`), and the two decoding tables. Each
  array that the kernel reads is stated as a function of the launched arguments.
-/
module

public import proofs.«01_k».proof.Proof.Gen.KernelIdeal.Frame
public import Idealize.ShloMosaic.Lib.StableHlo.Run

@[expose] public section

set_option maxRecDepth 16384

noncomputable section

namespace Cert.KernelIdeal.Prefix

open Idealize.ShloMosaic Idealize.ShloMosaic.TcCoe
open Cert.KernelIdeal Cert.KernelIdeal.Gen

variable {F : FTy → Type} [FloatOps F]

/-- The normalisation's scale: the gain times the reciprocal square root of the variance plus epsilon. -/
def scale (g v : FVec F S64 .f32) : FVec F S64 .f32 :=
  mulf g (Host.rsqrt (addf v (broadcastInDim S64 ![] bcast_S_S64 (constant S_ .f32 0x3727C5AC#32 : FVec F S_ .f32))))

/-- The first layer's weights, each output row times its scale. -/
def foldW (w : FVec F S64x64 .f32) (g v : FVec F S64 .f32) : FVec F S64x64 .f32 :=
  mulf w (broadcastInDim S64x64 ![0, 1] bcast_S64x1_S64x64_0_1 (broadcastInDim S64x1 ![0] bcast_S64_S64x1_0 (scale g v)))

/-- The first layer's bias, scaled and shifted: `b * s + (be - mean * s)`. -/
def foldB (b g be mean v : FVec F S64 .f32) : FVec F S64x1 .f32 :=
  broadcastInDim S64x1 ![0] bcast_S64_S64x1_0 (addf (mulf b (scale g v)) (subf be (mulf mean (scale g v))))

/-- The order of the box channels: where each row of the reordered weights comes from. -/
def order : IVec S42x1 32 :=
  broadcastInDim S42x1 ![0] bcast_S42_S42x1_0
    (select
      (cmpi .slt (fun i => lit0 (S42.rowMajor i)) (broadcastInDim S42 ![] bcast_S_S42 (constantI S_ 32 0#32)))
      (addi (fun i => lit0 (S42.rowMajor i)) (broadcastInDim S42 ![] bcast_S_S42 (constantI S_ 32 42#32)))
      (fun i => lit0 (S42.rowMajor i)) : IVec S42 32)

/-- The second box layer's weights, reordered. -/
def permW (w : FVec F S42x64 .f32) : FVec F S42x64 .f32 :=
  Host.gather gather_S42x64_S42x1_S42x64_1_0_n_n_0_1_164 w order

/-- The second box layer's bias, reordered, as a column. -/
def permB (b : FVec F S42 .f32) : FVec F S42x1 .f32 :=
  broadcastInDim S42x1 ![0] bcast_S42_S42x1_0 (Host.gather gather_S42_S42x1_S42_n_0_n_n_0_1_1 b order)

/-- The decoding table: for each position or size channel the anchor size, whether it is a position, and which coordinate. -/
def table : FVec F S36x5 .f32 := fun i => FloatOps.ofBits .f32 (lit1 (S36x5.rowMajor i))

/-- The cosines of the anchors' angles, as a column. -/
def cosines : FVec F S6x1 .f32 :=
  broadcastInDim S6x1 ![0] bcast_S6_S6x1_0 (fun i => FloatOps.ofBits .f32 (lit2 (S6.rowMajor i)) : FVec F S6 .f32)

section Reads

variable (m : (ℓ : Loc nD τ sig) → Buf (Elt F) ℓ) (c : Dev nD)

/-- The input is transposed to batch, first axis, third axis, channel, second axis. -/
theorem V_x : V m c main_v1 = transpose S2x180x5x64x200 [0, 2, 4, 1, 3] (m ((c : Thread nD τ).loc main_arg0))
    transposes_S2x64x180x200x5_S2x180x5x64x200_0_2_4_1_3 := by
  show StableHlo.after hostOps0 _ (Proc.devRef .tc main_v1) = _
  after_results

/-- The class head's first weights are folded. -/
theorem V_w1c : V m c main_v8 = foldW (m ((c : Thread nD τ).loc main_arg1)) (m ((c : Thread nD τ).loc main_arg3))
    (m ((c : Thread nD τ).loc main_arg6)) := by
  show StableHlo.after hostOps0 _ (Proc.devRef .tc main_v8) = _
  after_results
  rfl

/-- The class head's first bias is folded. -/
theorem V_b1c : V m c main_v13 = foldB (m ((c : Thread nD τ).loc main_arg2)) (m ((c : Thread nD τ).loc main_arg3))
    (m ((c : Thread nD τ).loc main_arg4)) (m ((c : Thread nD τ).loc main_arg5)) (m ((c : Thread nD τ).loc main_arg6)) := by
  show StableHlo.after hostOps0 _ (Proc.devRef .tc main_v13) = _
  after_results
  rfl

/-- The box head's first weights are folded. -/
theorem V_w1r : V m c main_v20 = foldW (m ((c : Thread nD τ).loc main_arg9)) (m ((c : Thread nD τ).loc main_arg11))
    (m ((c : Thread nD τ).loc main_arg14)) := by
  show StableHlo.after hostOps0 _ (Proc.devRef .tc main_v20) = _
  after_results
  rfl

/-- The box head's first bias is folded. -/
theorem V_b1r : V m c main_v25 = foldB (m ((c : Thread nD τ).loc main_arg10)) (m ((c : Thread nD τ).loc main_arg11))
    (m ((c : Thread nD τ).loc main_arg12)) (m ((c : Thread nD τ).loc main_arg13)) (m ((c : Thread nD τ).loc main_arg14)) := by
  show StableHlo.after hostOps0 _ (Proc.devRef .tc main_v25) = _
  after_results
  rfl

/-- The class head's second bias is a column. -/
theorem V_b2c : V m c main_v26 = broadcastInDim S24x1 ![0] bcast_S24_S24x1_0 (m ((c : Thread nD τ).loc main_arg8)) := by
  show StableHlo.after hostOps0 _ (Proc.devRef .tc main_v26) = _
  after_results

/-- The box head's second weights are reordered. -/
theorem V_w2r : V m c main_v33 = permW (m ((c : Thread nD τ).loc main_arg15)) := by
  show StableHlo.after hostOps0 _ (Proc.devRef .tc main_v33) = _
  after_results
  rfl

/-- The box head's second bias is reordered. -/
theorem V_b2r : V m c main_v41 = permB (m ((c : Thread nD τ).loc main_arg16)) := by
  show StableHlo.after hostOps0 _ (Proc.devRef .tc main_v41) = _
  after_results
  rfl

/-- The decoding table is the constant. -/
theorem V_table : V m c main_cst = table := by
  show StableHlo.after hostOps0 _ (Proc.devRef .tc main_cst) = _
  after_results
  rfl

/-- The cosines are the constants, as a column. -/
theorem V_cosines : V m c main_v0 = cosines := by
  show StableHlo.after hostOps0 _ (Proc.devRef .tc main_v0) = _
  after_results
  rfl

end Reads

end Cert.KernelIdeal.Prefix

end
-- ==== Proof.RowsAt.lean ====
/-
  The kernel's rows read at an index, in the extended reals: the hidden layer, the two second layers, and the three kinds of
  box channel. Channel `7 a + k` of anchor `a` is a position for `k < 3`, a size for `3 ≤ k < 6`, and the angle for `k = 6`.
-/
module

public import proofs.«01_k».proof.Proof.Rows
public import proofs.«01_k».proof.Proof.Prefix
public import Idealize.ShloMosaic.Lib.Pointwise
public import Idealize.ShloMosaic.Lib.Pipeline.ValueKit
public import Idealize.ShloMosaic.Lib.Routing.OpsSet

@[expose] public section

set_option maxRecDepth 16384

noncomputable section

namespace Cert.KernelIdeal.RowsAt

open Idealize.ShloMosaic Idealize.ShloMosaic.TcCoe Idealize.ShloMosaic.Routing
open Cert.KernelIdeal Cert.KernelIdeal.Gen Cert.KernelIdeal.Rows Cert.KernelIdeal.Prefix

/-! ## The folded and the reordered weights -/

/-- The folded weight is the weight times its output channel's scale. -/
theorem foldW_apply (w : FVec Ideal S64x64 .f32) (g v : FVec Ideal S64 .f32) (o c : Fin 64) :
    foldW w g v (ix2 o c) = w (ix2 o c) * (g (ix1 o) * Ideal.rsqrt (v (ix1 o) + Ideal.ofBits .f32 0x3727C5AC#32)) := by
  pointwise [foldW, scale]

/-- The folded bias is the bias times the scale, plus the shift less the mean times the scale. -/
theorem foldB_apply (b g be mean v : FVec Ideal S64 .f32) (o : Fin 64) :
    foldB b g be mean v (ix2 o 0)
      = b (ix1 o) * (g (ix1 o) * Ideal.rsqrt (v (ix1 o) + Ideal.ofBits .f32 0x3727C5AC#32))
        + (be (ix1 o) - mean (ix1 o) * (g (ix1 o) * Ideal.rsqrt (v (ix1 o) + Ideal.ofBits .f32 0x3727C5AC#32))) := by
  pointwise [foldB, scale]

/-- Where row `r` of the reordered weights comes from: the position and size channels first, then the six angles. -/
def source (r : Fin 42) : Fin 42 :=
  if h : r.val < 36 then ⟨r.val / 6 * 7 + r.val % 6, by omega⟩ else ⟨(r.val - 36) * 7 + 6, by omega⟩

/-- The printed order is `source`. -/
theorem order_apply (r : Fin 42) : order (ix2 r 0) = BitVec.ofNat 32 (source r).val := by
  pointwise [order]
  revert r
  decide +kernel

/-- A row of the reordered weights is the row it comes from. -/
theorem permW_apply (w : FVec Ideal S42x64 .f32) (r : Fin 42) (c : Fin 64) : permW w (ix2 r c) = w (ix2 (source r) c) :=
  gather_row _ rfl rfl rfl rfl rfl w order r c (source r) (order_apply r) (by decide)

/-- An entry of the reordered bias is the entry it comes from. -/
theorem permB_apply (b : FVec Ideal S42 .f32) (r : Fin 42) : permB b (ix2 r 0) = b (ix1 (source r)) := by
  pointwise [permB]
  exact gather_take1 _ rfl rfl rfl rfl b order r (source r) (order_apply r) (by decide)

/-! ## The layers -/

/-- The hidden layer at an index. -/
theorem hidden_apply (w : FVec Ideal S64x64 .f32) (b : FVec Ideal S64x1 .f32) (v : FVec Ideal S1x1x1x64x200 .f32) (o : Fin 64)
    (l : Fin 200) : Rows.hidden (F := Ideal) w b v (ix2 o l) = max (∑ c, w (ix2 o c) * v (ix5 0 0 0 c l) + b (ix2 o 0)) 0 := by
  pointwise [Rows.hidden]

/-- The class row at an index. -/
theorem clsRow_apply (w1 : FVec Ideal S64x64 .f32) (b1 : FVec Ideal S64x1 .f32) (w2 : FVec Ideal S24x64 .f32)
    (b2 : FVec Ideal S24x1 .f32) (v : FVec Ideal S1x1x1x64x200 .f32) (n : Fin 24) (l : Fin 200) :
    clsRow (F := Ideal) w1 b1 w2 b2 v (ix5 0 0 0 n l)
      = ∑ o, w2 (ix2 n o) * Rows.hidden (F := Ideal) w1 b1 v (ix2 o l) + b2 (ix2 n 0) := by
  pointwise [clsRow]

/-- The raw offsets at an index. -/
theorem regRow_apply (w1 : FVec Ideal S64x64 .f32) (b1 : FVec Ideal S64x1 .f32) (w2 : FVec Ideal S42x64 .f32)
    (b2 : FVec Ideal S42x1 .f32) (v : FVec Ideal S1x1x1x64x200 .f32) (n : Fin 42) (l : Fin 200) :
    regRow (F := Ideal) w1 b1 w2 b2 v (ix2 n l)
      = ∑ o, w2 (ix2 n o) * Rows.hidden (F := Ideal) w1 b1 v (ix2 o l) + b2 (ix2 n 0) := by
  pointwise [regRow]

/-! ## The tables -/

/-- The word of the decoding table in row `r` and column `c`. -/
def word (r : Fin 36) (c : Fin 5) : BitVec 32 := lit1 (S36x5.rowMajor (ix2 r c))

/-- The load of column `c` of the table. -/
theorem column (c : Fin 5) (inb : ∀ a, (![0, c.val] : Fin 2 → Nat) a + S36x1.size a ≤ S36x5.size a) (r : Fin 36) :
    View.ld (Val := Elt Ideal) (e' := .f32) (table : FVec Ideal S36x5 .f32)
        (Rect.unit (s := S36x5) ![0, c.val] S36x1.size inb) (ix2 r 0)
      = Ideal.ofBits .f32 (word r c) := by
  refine View.ld_unit_apply_of (Val := Elt Ideal) (e := .f32) (table : FVec Ideal S36x5 .f32) _ _ _ _ (ix2 r c) fun a => ?_
  match a with
  | ⟨0, _⟩ => exact (Nat.zero_add _).symm
  | ⟨1, _⟩ => rfl

/-- The cosine of anchor `a`. -/
theorem cosines_apply (a : Fin 6) : (cosines : FVec Ideal S6x1 .f32) (ix2 a 0) = Ideal.ofBits .f32 (lit2 (S6.rowMajor (ix1 a))) := by
  pointwise [cosines]

/-! ## The decoding -/

set_option maxHeartbeats 2000000 in
/-- The interleaved channels: anchor `a`'s first six are its rows of the positions and sizes. -/
theorem interleave_placed (q : FVec Ideal S36x200 .f32) (p : FVec Ideal S6x200 .f32) (a k : Fin 6) (l : Fin 200) (n : Fin 42)
    (r : Fin 36) (hn : n.val = a.val * 7 + k.val) (hr : r.val = a.val * 6 + k.val) : interleave q p (ix2 n l) = q (ix2 r l) := by
  have hk := k.isLt
  pointwise [interleave]
  fin_vals a with ha <;> (repeat rw [dif_neg (by omega)]) <;> (try rw [dif_pos (by omega)]) <;> (congr 2; exact Fin.ext (by dsimp only; omega))

set_option maxHeartbeats 2000000 in
/-- The interleaved channels: anchor `a`'s seventh is its angle. -/
theorem interleave_angle (q : FVec Ideal S36x200 .f32) (p : FVec Ideal S6x200 .f32) (a : Fin 6) (l : Fin 200) (n : Fin 42)
    (hn : n.val = a.val * 7 + 6) : interleave q p (ix2 n l) = p (ix2 a l) := by
  pointwise [interleave]
  fin_vals a with ha <;> (repeat rw [dif_neg (by omega)]) <;> (try rw [dif_pos (by omega)]) <;> (congr 2; exact Fin.ext (by dsimp only; omega))

/-- The position and size channels at an index. -/
theorem placed_apply (g : BitVec 32) (mult : FVec Ideal S36x1 .f32) (isPos : IVec S36x1 1) (yz : FVec Ideal S36x200 .f32)
    (selX : FVec Ideal S36x1 .f32) (p : FVec Ideal S36x200 .f32) (r : Fin 36) (l : Fin 200) :
    placed (F := Ideal) g mult isPos yz selX p (ix2 r l)
      = Scalar.select (isPos (ix2 r 0))
          (p (ix2 r l) * mult (ix2 r 0)
            + (yz (ix2 r l)
              + (Ideal.ofBits .f32 0x3ECCCCCD#32 * FloatOps.sitofp .f32 g + Ideal.ofBits .f32 0x3E4CCCCD#32) * selX (ix2 r 0)))
          (Ideal.exp (p (ix2 r l)) * mult (ix2 r 0)) := by
  pointwise [placed, centerX]
  rfl

/-- The second and third centre coordinates at an index. -/
theorem centerYZ_apply (z : BitVec 32) (selY selZ : FVec Ideal S36x1 .f32) (r : Fin 36) (l : Fin 200) :
    centerYZ (F := Ideal) z selY selZ (ix2 r l)
      = (Ideal.ofBits .f32 0xC2200000#32 + Ideal.ofBits .f32 0x3ECCCCCD#32 * FloatOps.sitofp .f32 (BitVec.ofNat 32 l.val)
            + Ideal.ofBits .f32 0x3E4CCCCD#32) * selY (ix2 r 0)
        + (Ideal.ofBits .f32 0xC0800000#32 + Ideal.ofBits .f32 0x3FCCCCCD#32 * FloatOps.sitofp .f32 z
            + Ideal.ofBits .f32 0x3F4CCCCD#32) * selZ (ix2 r 0) := by
  pointwise [centerYZ]
  rfl

/-- The angle's cosine at an index. -/
theorem cosine_apply (cosA : FVec Ideal S6x1 .f32) (p : FVec Ideal S6x200 .f32) (a : Fin 6) (l : Fin 200) :
    cosine (F := Ideal) cosA p (ix2 a l) = Ideal.logistic (p (ix2 a l)) * cosA (ix2 a 0) := by
  pointwise [cosine]

/-- The angle at an index. -/
theorem angle_apply (cosA : FVec Ideal S6x1 .f32) (p : FVec Ideal S6x200 .f32) (a : Fin 6) (l : Fin 200) :
    angle (F := Ideal) cosA p (ix2 a l)
      = Ideal.atan2 (cosine (F := Ideal) cosA p (ix2 a l))
          (Ideal.sqrt (1 - cosine (F := Ideal) cosA p (ix2 a l) * cosine (F := Ideal) cosA p (ix2 a l))) := by
  pointwise [angle]

/-- Whether row `r` is a position: its entry is above one half. -/
theorem isPosition_apply (v : FVec Ideal S36x1 .f32) (r : Fin 36) :
    isPosition (F := Ideal) v (ix2 r 0) = BitVec.ofBool (decide (Ideal.ofBits .f32 0x3F000000#32 < v (ix2 r 0))) := by
  pointwise [isPosition]

end Cert.KernelIdeal.RowsAt

end
-- ==== Proof.Ref.lean ====
/-
  The reference's two results in stages: the normalised hidden layer (`hidden`), the second layers (`scores`, `offsets`), the
  anchors (`anchors`) and the decoding (`decoded`). `clsOut` and `boxOut` are the
  two results by these names.
-/
module

public import proofs.«01_k».proof.Proof.Gen.ReferenceIdeal.Run

@[expose] public section

set_option maxRecDepth 16384

noncomputable section

namespace Cert.ReferenceIdeal.Stages

open Idealize.ShloMosaic Idealize.ShloMosaic.TcCoe Idealize.SL.Sem
open Cert.ReferenceIdeal Cert.ReferenceIdeal.Gen

variable {F : FTy → Type} [FloatOps F]

/-- A vector over the hidden channels, repeated at every batch element and position. -/
def perChannel (b : FVec F S64 .f32) : FVec F S2x64x180x200x5 .f32 :=
  broadcastInDim S2x64x180x200x5 ![0, 1, 2, 3, 4] bcast_S1x64x1x1x1_S2x64x180x200x5_0_1_2_3_4
    (broadcastInDim S1x64x1x1x1 ![1] bcast_S64_S1x64x1x1x1_1 b)

/-- The first layer: weights times channels, plus the bias. -/
def conv (x : FVec F S2x64x180x200x5 .f32) (w : FVec F S64x64 .f32) (b : FVec F S64 .f32) : FVec F S2x64x180x200x5 .f32 :=
  addf
    (transpose S2x64x180x200x5 [1, 0, 2, 3, 4]
      (Host.dotGeneral dot_S64x64_S2x64x180x200x5_S64x2x180x200x5_1_1_0_0234_n_n none w x)
      transposes_S64x2x180x200x5_S2x64x180x200x5_1_0_2_3_4)
    (perChannel b)

/-- The normalisation's scale: the gain times the reciprocal square root of the variance plus epsilon. -/
def scale (g v : FVec F S64 .f32) : FVec F S64 .f32 :=
  mulf g (Host.rsqrt (addf v (broadcastInDim S64 ![] bcast_S_S64 (constant S_ .f32 0x3727C5AC#32 : FVec F S_ .f32))))

/-- The hidden layer of a head: the first layer, normalised and clamped below at zero. -/
def hidden (x : FVec F S2x64x180x200x5 .f32) (w : FVec F S64x64 .f32) (b g be mean v : FVec F S64 .f32) :
    FVec F S2x64x180x200x5 .f32 :=
  maximumf
    (addf (mulf (subf (conv x w b) (perChannel mean)) (perChannel (scale g v))) (perChannel be))
    (broadcastInDim S2x64x180x200x5 ![] bcast_S_S2x64x180x200x5 (constant S_ .f32 0x00000000#32 : FVec F S_ .f32))

/-- The class scores: the second layer on the hidden layer, plus its bias, channels last. -/
def scores (h : FVec F S2x64x180x200x5 .f32) (w : FVec F S24x64 .f32) (b : FVec F S24 .f32) :
    FVec F S2x180x200x5x24 .f32 :=
  transpose S2x180x200x5x24 [0, 2, 3, 4, 1]
    (addf
      (transpose S2x24x180x200x5 [1, 0, 2, 3, 4]
        (Host.dotGeneral dot_S24x64_S2x64x180x200x5_S24x2x180x200x5_1_1_0_0234_n_n none w h)
        transposes_S24x2x180x200x5_S2x24x180x200x5_1_0_2_3_4)
      (broadcastInDim S2x24x180x200x5 ![0, 1, 2, 3, 4] bcast_S1x24x1x1x1_S2x24x180x200x5_0_1_2_3_4
        (broadcastInDim S1x24x1x1x1 ![1] bcast_S24_S1x24x1x1x1_1 b)))
    transposes_S2x24x180x200x5_S2x180x200x5x24_0_2_3_4_1

/-- The box offsets: the second layer on the hidden layer, plus its bias, as seven channels for each of six anchors. -/
def offsets (h : FVec F S2x64x180x200x5 .f32) (w : FVec F S42x64 .f32) (b : FVec F S42 .f32) :
    FVec F S2x180x200x5x6x7 .f32 :=
  shapeCast S2x180x200x5x6x7
    (transpose S2x180x200x5x42 [0, 2, 3, 4, 1]
      (addf
        (transpose S2x42x180x200x5 [1, 0, 2, 3, 4]
          (Host.dotGeneral dot_S42x64_S2x64x180x200x5_S42x2x180x200x5_1_1_0_0234_n_n none w h)
          transposes_S42x2x180x200x5_S2x42x180x200x5_1_0_2_3_4)
        (broadcastInDim S2x42x180x200x5 ![0, 1, 2, 3, 4] bcast_S1x42x1x1x1_S2x42x180x200x5_0_1_2_3_4
          (broadcastInDim S1x42x1x1x1 ![1] bcast_S42_S1x42x1x1x1_1 b)) : FVec F S2x42x180x200x5 .f32)
      transposes_S2x42x180x200x5_S2x180x200x5x42_0_2_3_4_1)
    shapeCasts_S2x180x200x5x42_S2x180x200x5x6x7

/-- The grid's first coordinates. -/
def gridX : FVec F S180 .f32 :=
  addf (broadcastInDim S180 ![] bcast_S_S180 (constant S_ .f32 0x00000000#32 : FVec F S_ .f32))
    (mulf (broadcastInDim S180 ![] bcast_S_S180 (constant S_ .f32 0x3ECCCCCD#32 : FVec F S_ .f32))
      (sitofp .f32 (iotaInDim S180 32 0)))

/-- The grid's second coordinates. -/
def gridY : FVec F S200 .f32 :=
  addf (broadcastInDim S200 ![] bcast_S_S200 (constant S_ .f32 0xC2200000#32 : FVec F S_ .f32))
    (mulf (broadcastInDim S200 ![] bcast_S_S200 (constant S_ .f32 0x3ECCCCCD#32 : FVec F S_ .f32))
      (sitofp .f32 (iotaInDim S200 32 0)))

/-- The grid's third coordinates. -/
def gridZ : FVec F S5 .f32 :=
  addf (broadcastInDim S5 ![] bcast_S_S5 (constant S_ .f32 0xC0800000#32 : FVec F S_ .f32))
    (mulf (broadcastInDim S5 ![] bcast_S_S5 (constant S_ .f32 0x3FCCCCCD#32 : FVec F S_ .f32))
      (sitofp .f32 (iotaInDim S5 32 0)))

/-- The anchors' centres: the grid's coordinates plus half a stride. -/
def centers : FVec F S180x200x5x3 .f32 :=
  addf
    (concatenate S180x200x5x3 3
      [⟨S180x200x5x1, broadcastInDim S180x200x5x1 ![0, 1, 2] bcast_S180x200x5_S180x200x5x1_0_1_2
          (broadcastInDim S180x200x5 ![0] bcast_S180_S180x200x5_0 gridX)⟩,
       ⟨S180x200x5x1, broadcastInDim S180x200x5x1 ![0, 1, 2] bcast_S180x200x5_S180x200x5x1_0_1_2
          (broadcastInDim S180x200x5 ![1] bcast_S200_S180x200x5_1 gridY)⟩,
       ⟨S180x200x5x1, broadcastInDim S180x200x5x1 ![0, 1, 2] bcast_S180x200x5_S180x200x5x1_0_1_2
          (broadcastInDim S180x200x5 ![2] bcast_S5_S180x200x5_2 gridZ)⟩]
      concatenates_S180x200x5x1_S180x200x5x1_S180x200x5x1_S180x200x5x3_d3)
    (broadcastInDim S180x200x5x3 ![0, 1, 2, 3] bcast_S1x1x1x3_S180x200x5x3_0_1_2_3
      (broadcastInDim S1x1x1x3 ![3] bcast_S3_S1x1x1x3_3
        (fun i => FloatOps.ofBits .f32 (lit0 (S3.rowMajor i)) : FVec F S3 .f32)))

/-- The anchors: at every position, for each of six anchors, the centre and then the three sizes and the angle. -/
def anchors : FVec F S180x200x5x6x7 .f32 :=
  concatenate S180x200x5x6x7 4
    [⟨S180x200x5x6x3, broadcastInDim S180x200x5x6x3 ![0, 1, 2, 3, 4] bcast_S180x200x5x1x3_S180x200x5x6x3_0_1_2_3_4
        (broadcastInDim S180x200x5x1x3 ![0, 1, 2, 4] bcast_S180x200x5x3_S180x200x5x1x3_0_1_2_4 centers)⟩,
     ⟨S180x200x5x6x4, broadcastInDim S180x200x5x6x4 ![3, 4] bcast_S6x4_S180x200x5x6x4_3_4
        (fun i => FloatOps.ofBits .f32 (lit1 (S6x4.rowMajor i)) : FVec F S6x4 .f32)⟩]
    concatenates_S180x200x5x6x3_S180x200x5x6x4_S180x200x5x6x7_d4

/-- A value per position and anchor, repeated for both batch elements. -/
def perBatch (a : FVec F S180x200x5x6x3 .f32) : FVec F S2x180x200x5x6x3 .f32 :=
  broadcastInDim S2x180x200x5x6x3 ![0, 1, 2, 3, 4, 5] bcast_S1x180x200x5x6x3_S2x180x200x5x6x3_0_1_2_3_4_5
    (broadcastInDim S1x180x200x5x6x3 ![1, 2, 3, 4, 5] bcast_S180x200x5x6x3_S1x180x200x5x6x3_1_2_3_4_5 a)

/-- The anchors' centres, for both batch elements. -/
def anchorCenter : FVec F S2x180x200x5x6x3 .f32 :=
  perBatch (extractStridedSlice S180x200x5x6x3 ![0, 0, 0, 0, 0] anchors slices_S180x200x5x6x7_S180x200x5x6x3_0_0_0_0_0)

/-- The anchors' sizes, for both batch elements. -/
def anchorSize : FVec F S2x180x200x5x6x3 .f32 :=
  perBatch (extractStridedSlice S180x200x5x6x3 ![0, 0, 0, 0, 3] anchors slices_S180x200x5x6x7_S180x200x5x6x3_0_0_0_0_3)

/-- The decoded positions: offset times anchor size, plus anchor centre. -/
def position (o : FVec F S2x180x200x5x6x7 .f32) : FVec F S2x180x200x5x6x3 .f32 :=
  addf
    (mulf (extractStridedSlice S2x180x200x5x6x3 ![0, 0, 0, 0, 0, 0] o slices_S2x180x200x5x6x7_S2x180x200x5x6x3_0_0_0_0_0_0)
      anchorSize)
    anchorCenter

/-- The decoded sizes: the exponential of the offset times the anchor size. -/
def dims (o : FVec F S2x180x200x5x6x7 .f32) : FVec F S2x180x200x5x6x3 .f32 :=
  mulf
    (Host.exp
      (extractStridedSlice S2x180x200x5x6x3 ![0, 0, 0, 0, 0, 3] o slices_S2x180x200x5x6x7_S2x180x200x5x6x3_0_0_0_0_0_3))
    anchorSize

/-- One, at every position and anchor. -/
def ones : FVec F S2x180x200x5x6 .f32 :=
  broadcastInDim S2x180x200x5x6 ![] bcast_S_S2x180x200x5x6 (constant S_ .f32 0x3F800000#32 : FVec F S_ .f32)

/-- The logistic of the angle's offset times the cosine of the anchor's angle. -/
def cosine (o : FVec F S2x180x200x5x6x7 .f32) : FVec F S2x180x200x5x6 .f32 :=
  mulf
    (Host.divf ones
      (addf ones
        (Host.exp
          (Host.negf
            (shapeCast S2x180x200x5x6
              (extractStridedSlice S2x180x200x5x6x1 ![0, 0, 0, 0, 0, 6] o
                slices_S2x180x200x5x6x7_S2x180x200x5x6x1_0_0_0_0_0_6)
              shapeCasts_S2x180x200x5x6x1_S2x180x200x5x6 : FVec F S2x180x200x5x6 .f32)))))
    (broadcastInDim S2x180x200x5x6 ![0, 1, 2, 3, 4] bcast_S1x1x1x1x6_S2x180x200x5x6_0_1_2_3_4
      (broadcastInDim S1x1x1x1x6 ![4] bcast_S6_S1x1x1x1x6_4
        (fun i => FloatOps.ofBits .f32 (lit2 (S6.rowMajor i)) : FVec F S6 .f32)))

/-- The decoded angles. -/
def angle (o : FVec F S2x180x200x5x6x7 .f32) : FVec F S2x180x200x5x6 .f32 :=
  Host.atan2 (cosine o) (Host.sqrt (subf ones (mulf (cosine o) (cosine o))))

/-- The decoded boxes: position, size and angle, for each of six anchors. -/
def decoded (o : FVec F S2x180x200x5x6x7 .f32) : FVec F S2x180x200x5x42 .f32 :=
  shapeCast S2x180x200x5x42
    (concatenate S2x180x200x5x6x7 5
      [⟨S2x180x200x5x6x3, position o⟩, ⟨S2x180x200x5x6x3, dims o⟩,
       ⟨S2x180x200x5x6x1, broadcastInDim S2x180x200x5x6x1 ![0, 1, 2, 3, 4]
          bcast_S2x180x200x5x6_S2x180x200x5x6x1_0_1_2_3_4 (angle o)⟩]
      concatenates_S2x180x200x5x6x3_S2x180x200x5x6x3_S2x180x200x5x6x1_S2x180x200x5x6x7_d5)
    shapeCasts_S2x180x200x5x6x7_S2x180x200x5x42

section Run

variable (m : (ℓ : Loc nD τ sig) → Buf (Elt F) ℓ)

/-- The reference's class scores, from the launched arguments. -/
def clsOut (c : Dev nD) : FVec F S2x180x200x5x24 .f32 :=
  scores (hidden (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)))
    (m ((c.tc : Thread nD τ).loc main_arg7)) (m ((c.tc : Thread nD τ).loc main_arg8))

/-- The reference's decoded boxes, from the launched arguments. -/
def boxOut (c : Dev nD) : FVec F S2x180x200x5x42 .f32 :=
  decoded (offsets (hidden (m ((c.tc : Thread nD τ).loc main_arg0)) (m ((c.tc : Thread nD τ).loc main_arg9))
      (m ((c.tc : Thread nD τ).loc main_arg10)) (m ((c.tc : Thread nD τ).loc main_arg11))
      (m ((c.tc : Thread nD τ).loc main_arg12)) (m ((c.tc : Thread nD τ).loc main_arg13))
      (m ((c.tc : Thread nD τ).loc main_arg14)))
    (m ((c.tc : Thread nD τ).loc main_arg15)) (m ((c.tc : Thread nD τ).loc main_arg16)))

/-- The generated name of the second result is `boxOut`. -/
theorem res_eq_boxOut (c : Dev nD) : Value.res_main_v113 m c = boxOut m c := rfl

end Run

end Cert.ReferenceIdeal.Stages

end
-- ==== Proof.RefAt.lean ====
/-
  The reference's stages read at an index, in the extended reals. Channel `7 a + k` of a box is anchor `a`'s position for
  `k < 3`, its size for `3 ≤ k < 6`, and its angle for `k = 6`.
-/
module

public import proofs.«01_k».proof.Proof.Ref
public import Idealize.ShloMosaic.Lib.Pointwise

@[expose] public section

set_option maxRecDepth 16384

noncomputable section

namespace Cert.ReferenceIdeal.RefAt

open Idealize.ShloMosaic Idealize.ShloMosaic.TcCoe
open Cert.ReferenceIdeal Cert.ReferenceIdeal.Gen Cert.ReferenceIdeal.Stages

variable (i : Fin 2) (x : Fin 180) (y : Fin 200) (z : Fin 5)

/-- The hidden layer at an index. -/
theorem hidden_apply (X : FVec Ideal S2x64x180x200x5 .f32) (w : FVec Ideal S64x64 .f32) (b g be mean v : FVec Ideal S64 .f32)
    (o : Fin 64) :
    Stages.hidden X w b g be mean v (ix5 i o x y z)
      = max ((∑ c, w (ix2 o c) * X (ix5 i c x y z) + b (ix1 o) - mean (ix1 o))
            * (g (ix1 o) * Ideal.rsqrt (v (ix1 o) + Ideal.ofBits .f32 0x3727C5AC#32)) + be (ix1 o)) 0 := by
  pointwise [Stages.hidden, conv, perChannel, scale]

/-- The class scores at an index. -/
theorem scores_apply (h : FVec Ideal S2x64x180x200x5 .f32) (w : FVec Ideal S24x64 .f32) (b : FVec Ideal S24 .f32) (n : Fin 24) :
    scores h w b (ix5 i x y z n) = ∑ o, w (ix2 n o) * h (ix5 i o x y z) + b (ix1 n) := by
  pointwise [scores]

/-- The box offsets at an index: channel `k` of anchor `a` is channel `7 a + k` of the layer. -/
theorem offsets_apply (h : FVec Ideal S2x64x180x200x5 .f32) (w : FVec Ideal S42x64 .f32) (b : FVec Ideal S42 .f32) (a : Fin 6)
    (k : Fin 7) (n : Fin 42) (hn : n.val = a.val * 7 + k.val) :
    offsets h w b (ix6 i x y z a k) = ∑ o, w (ix2 n o) * h (ix5 i o x y z) + b (ix1 n) := by
  have e : ∀ h : a.val * 7 + k.val < 42, n = ⟨a.val * 7 + k.val, h⟩ := fun h => Fin.ext hn
  rw [e (by have ha := a.isLt; have hk := k.isLt; clear e hn; omega)]
  pointwise [offsets]

/-- The word of coordinate `k` of anchor `a`'s size. -/
def sizeWord (a : Fin 6) (k : Fin 3) : BitVec 32 := lit1 (S6x4.rowMajor (ix2 a ⟨k.val, by omega⟩))

/-- The anchors' sizes at an index. -/
theorem anchorSize_apply (a : Fin 6) (k : Fin 3) :
    (anchorSize : FVec Ideal S2x180x200x5x6x3 .f32) (ix6 i x y z a k) = Ideal.ofBits .f32 (sizeWord a k) := by
  pointwise [anchorSize, perBatch, anchors, sizeWord]

/-- The anchors' centres at an index do not depend on the batch element or the anchor. -/
theorem anchorCenter_apply (a : Fin 6) (k : Fin 3) :
    (anchorCenter : FVec Ideal S2x180x200x5x6x3 .f32) (ix6 i x y z a k) = (centers : FVec Ideal S180x200x5x3 .f32) (ix4 x y z k) := by
  pointwise [anchorCenter, perBatch, anchors]

/-- The first coordinate of a centre. -/
theorem centers_x : (centers : FVec Ideal S180x200x5x3 .f32) (ix4 x y z 0)
    = Ideal.ofBits .f32 0x3ECCCCCD#32 * FloatOps.sitofp .f32 (BitVec.ofNat 32 x.val) + Ideal.ofBits .f32 0x3E4CCCCD#32 := by
  pointwise [centers, gridX, gridY, gridZ]
  rfl

/-- The second coordinate of a centre. -/
theorem centers_y : (centers : FVec Ideal S180x200x5x3 .f32) (ix4 x y z 1)
    = Ideal.ofBits .f32 0xC2200000#32 + Ideal.ofBits .f32 0x3ECCCCCD#32 * FloatOps.sitofp .f32 (BitVec.ofNat 32 y.val)
      + Ideal.ofBits .f32 0x3E4CCCCD#32 := by
  pointwise [centers, gridX, gridY, gridZ]
  rfl

/-- The third coordinate of a centre. -/
theorem centers_z : (centers : FVec Ideal S180x200x5x3 .f32) (ix4 x y z 2)
    = Ideal.ofBits .f32 0xC0800000#32 + Ideal.ofBits .f32 0x3FCCCCCD#32 * FloatOps.sitofp .f32 (BitVec.ofNat 32 z.val)
      + Ideal.ofBits .f32 0x3F4CCCCD#32 := by
  pointwise [centers, gridX, gridY, gridZ]
  rfl

section Decoded

variable (o : FVec Ideal S2x180x200x5x6x7 .f32) (a : Fin 6) (n : Fin 42)

/-- A position channel of the decoded boxes: offset times size plus centre. -/
theorem decoded_position (k : Fin 3) (hn : n.val = a.val * 7 + k.val) :
    decoded o (ix5 i x y z n)
      = o (ix6 i x y z a ⟨k.val, by omega⟩) * Ideal.ofBits .f32 (sizeWord a k)
        + (centers : FVec Ideal S180x200x5x3 .f32) (ix4 x y z k) := by
  have hk := k.isLt
  have h : position o (ix6 i x y z a k) = o (ix6 i x y z a ⟨k.val, by omega⟩) * Ideal.ofBits .f32 (sizeWord a k)
      + (centers : FVec Ideal S180x200x5x3 .f32) (ix4 x y z k) := by
    rw [← anchorSize_apply i x y z, ← anchorCenter_apply i x y z a k]
    pointwise [position]
  rw [← h]
  pointwise [decoded]
  rw [dif_pos (by omega)]
  congr 2 <;> exact Fin.ext (by dsimp only; omega)

/-- A size channel of the decoded boxes: the exponential of the offset times the size. -/
theorem decoded_size (k : Fin 3) (hn : n.val = a.val * 7 + (3 + k.val)) :
    decoded o (ix5 i x y z n)
      = Ideal.exp (o (ix6 i x y z a ⟨3 + k.val, by omega⟩)) * Ideal.ofBits .f32 (sizeWord a k) := by
  have hk := k.isLt
  have h : dims o (ix6 i x y z a k) = Ideal.exp (o (ix6 i x y z a ⟨3 + k.val, by omega⟩)) * Ideal.ofBits .f32 (sizeWord a k) := by
    rw [← anchorSize_apply i x y z]
    pointwise [dims]
  rw [← h]
  pointwise [decoded]
  rw [dif_neg (by omega), dif_pos (by omega)]
  congr 2 <;> exact Fin.ext (by dsimp only; omega)

/-- The cosine at an index: the logistic of the offset times the cosine of the anchor's angle. -/
theorem cosine_apply : Stages.cosine o (ix5 i x y z a)
    = Ideal.div 1 (1 + Ideal.exp (-o (ix6 i x y z a 6))) * Ideal.ofBits .f32 (lit2 (S6.rowMajor (ix1 a))) := by
  pointwise [Stages.cosine, ones]

/-- The angle channel of the decoded boxes. -/
theorem decoded_angle (hn : n.val = a.val * 7 + 6) :
    decoded o (ix5 i x y z n)
      = Ideal.atan2 (Stages.cosine o (ix5 i x y z a))
          (Ideal.sqrt (1 - Stages.cosine o (ix5 i x y z a) * Stages.cosine o (ix5 i x y z a))) := by
  have h : Stages.angle o (ix5 i x y z a) = Ideal.atan2 (Stages.cosine o (ix5 i x y z a))
      (Ideal.sqrt (1 - Stages.cosine o (ix5 i x y z a) * Stages.cosine o (ix5 i x y z a))) := by
    pointwise [Stages.angle, ones]
  rw [← h]
  pointwise [decoded]
  rw [dif_neg (by omega), dif_neg (by omega)]
  congr 2 <;> exact Fin.ext (by dsimp only; omega)

end Decoded

end Cert.ReferenceIdeal.RefAt

end
-- ==== Proof.Boxes.lean ====
/-
  The kernel's box row at the three kinds of channel. The decoding table's rows say the same as the reference's anchors: row
  `6 a + k` holds anchor `a`'s size, whether the channel is a position, and which of the centre's coordinates it takes. So
  each channel of the box row is the offset decoded with the reference's anchor.
-/
module

public import proofs.«01_k».proof.Proof.RowsAt
public import proofs.«01_k».proof.Proof.RefAt
public import Idealize.ShloMosaic.Lib.IdealHost

@[expose] public section

set_option maxRecDepth 16384

noncomputable section

namespace Cert.KernelIdeal.Boxes

open Idealize.ShloMosaic Idealize.ShloMosaic.TcCoe
open Cert.KernelIdeal Cert.KernelIdeal.Gen Cert.KernelIdeal.Rows Cert.KernelIdeal.Prefix Cert.KernelIdeal.RowsAt
open Cert.ReferenceIdeal.RefAt (sizeWord centers_x centers_y centers_z)
open Cert.ReferenceIdeal.Stages (centers)

/-- The table's row of anchor `a`'s channel `k`. -/
def tableRow (a k : Fin 6) : Fin 36 := ⟨a.val * 6 + k.val, by omega⟩

/-- The table's row of anchor `a`'s position coordinate `k`. -/
abbrev posRow (a : Fin 6) (k : Fin 3) : Fin 36 := tableRow a ⟨k.val, by omega⟩

/-- The table's row of anchor `a`'s size coordinate `k`. -/
abbrev sizeRow (a : Fin 6) (k : Fin 3) : Fin 36 := tableRow a ⟨3 + k.val, by omega⟩

/-- A position row holds the anchor's size, says position, and selects the coordinate of its own number alone. -/
theorem word_pos : ∀ (a : Fin 6) (k : Fin 3), word (posRow a k) 0 = sizeWord a k ∧ word (posRow a k) 1 = 0x3F800000#32
    ∧ word (posRow a k) 2 = (if k = 0 then 0x3F800000#32 else 0x00000000#32)
    ∧ word (posRow a k) 3 = (if k = 1 then 0x3F800000#32 else 0x00000000#32)
    ∧ word (posRow a k) 4 = (if k = 2 then 0x3F800000#32 else 0x00000000#32) := by
  unfold word sizeWord
  decide +kernel

/-- A size row holds the anchor's size, and does not say position. -/
theorem word_size : ∀ (a : Fin 6) (k : Fin 3), word (sizeRow a k) 0 = sizeWord a k ∧ word (sizeRow a k) 1 = 0x00000000#32 := by
  unfold word sizeWord
  decide +kernel

/-- One half, as an extended real. -/
theorem half : Ideal.ofBits .f32 0x3F000000#32 = ((1 / 2 : ℝ) : EReal) := by
  simp [Ideal.ofBits, Ideal.ieee]
  norm_num
  rw [← EReal.coe_mul]
  norm_num

/-- One is above one half. -/
theorem half_lt_one : Ideal.ofBits .f32 0x3F000000#32 < 1 := by
  rw [half, ← EReal.coe_one, EReal.coe_lt_coe_iff]
  norm_num

/-- Zero is not above one half. -/
theorem not_half_lt_zero : ¬ Ideal.ofBits .f32 0x3F000000#32 < 0 := by
  rw [half, ← EReal.coe_zero, EReal.coe_lt_coe_iff]
  norm_num

section Channels

variable (x : Fin 180) (y : Fin 200) (z : Fin 5) (w1 : FVec Ideal S64x64 .f32) (b1 : FVec Ideal S64x1 .f32)
  (w2 : FVec Ideal S42x64 .f32) (b2 : FVec Ideal S42x1 .f32) (v : FVec Ideal S1x1x1x64x200 .f32) (a : Fin 6) (n r : Fin 42)

/-- The box row at grid position `x`, `z` with the program's tables. -/
abbrev row : FVec Ideal S1x1x1x42x200 .f32 :=
  boxRow (F := Ideal) (BitVec.ofNat 32 x.val) (BitVec.ofNat 32 z.val) w1 b1 w2 b2 (table (F := Ideal)) (cosines (F := Ideal)) v

/-- What the kernel loads through a rectangle of the decoding table. -/
abbrev load (c : Rect S36x5) := View.ld (Val := Elt Ideal) (e' := .f32) (table (F := Ideal)) c

/-- The column loads of the table, at a row. -/
theorem ld_columns (q : Fin 36) :
    load r0_0 (ix2 q 0) = Ideal.ofBits .f32 (word q 0)
    ∧ load r0_1 (ix2 q 0) = Ideal.ofBits .f32 (word q 1)
    ∧ load r0_2 (ix2 q 0) = Ideal.ofBits .f32 (word q 3)
    ∧ load r0_3 (ix2 q 0) = Ideal.ofBits .f32 (word q 4)
    ∧ load r0_4 (ix2 q 0) = Ideal.ofBits .f32 (word q 2) :=
  ⟨column 0 _ q, column 1 _ q, column 3 _ q, column 4 _ q, column 2 _ q⟩

/-- The box row is the decoded row. -/
theorem row_eq_decode : row x z w1 b1 w2 b2 v (ix5 0 0 0 n y)
      = decode (F := Ideal) (BitVec.ofNat 32 x.val) (load r0_0) (isPosition (F := Ideal) (load r0_1))
        (centerYZ (F := Ideal) (BitVec.ofNat 32 z.val) (load r0_2) (load r0_3)) (load r0_4) (cosines (F := Ideal))
        (regRow (F := Ideal) w1 b1 w2 b2 v) (ix2 n y) := by
  unfold row boxRow
  pointwise

/-- A position or size channel of the box row, before its kind is known. -/
theorem row_placed (k : Fin 6) (hn : n.val = a.val * 7 + k.val) (hr : r.val = a.val * 6 + k.val) :
    row x z w1 b1 w2 b2 v (ix5 0 0 0 n y)
      = Scalar.select (BitVec.ofBool (decide (Ideal.ofBits .f32 0x3F000000#32 < Ideal.ofBits .f32 (word (tableRow a k) 1))))
          (regRow (F := Ideal) w1 b1 w2 b2 v (ix2 r y) * Ideal.ofBits .f32 (word (tableRow a k) 0)
            + ((centers : FVec Ideal Cert.ReferenceIdeal.S180x200x5x3 .f32) (ix4 x y z 1) * Ideal.ofBits .f32 (word (tableRow a k) 3)
              + (centers : FVec Ideal Cert.ReferenceIdeal.S180x200x5x3 .f32) (ix4 x y z 2) * Ideal.ofBits .f32 (word (tableRow a k) 4)
              + (centers : FVec Ideal Cert.ReferenceIdeal.S180x200x5x3 .f32) (ix4 x y z 0) * Ideal.ofBits .f32 (word (tableRow a k) 2)))
          (Ideal.exp (regRow (F := Ideal) w1 b1 w2 b2 v (ix2 r y)) * Ideal.ofBits .f32 (word (tableRow a k) 0)) := by
  obtain ⟨c0, c1, c3, c4, c2⟩ := ld_columns (tableRow a k)
  have hp : extractStridedSlice S36x200 ![0, 0] (regRow (F := Ideal) w1 b1 w2 b2 v) slices_S42x200_o0_0_S36x200
      (ix2 (tableRow a k) y) = regRow (F := Ideal) w1 b1 w2 b2 v (ix2 r y) := by
    pointwise
    congr 2
    exact Fin.ext hr.symm
  rw [row_eq_decode]
  unfold decode
  rw [interleave_placed _ _ a k y n (tableRow a k) hn rfl, placed_apply, isPosition_apply, centerYZ_apply, hp, c0, c1, c2, c3, c4,
    centers_x, centers_y, centers_z]

/-- A position channel of the box row: offset times the anchor's size plus its centre. -/
theorem row_position (k : Fin 3) (hn : n.val = a.val * 7 + k.val) (hr : r.val = a.val * 6 + k.val) :
    row x z w1 b1 w2 b2 v (ix5 0 0 0 n y)
      = regRow (F := Ideal) w1 b1 w2 b2 v (ix2 r y) * Ideal.ofBits .f32 (sizeWord a k)
        + (centers : FVec Ideal Cert.ReferenceIdeal.S180x200x5x3 .f32) (ix4 x y z k) := by
  obtain ⟨h0, h1, h2, h3, h4⟩ := word_pos a k
  rw [row_placed x y z w1 b1 w2 b2 v a n r ⟨k.val, by omega⟩ hn hr, h0, h1, h2, h3, h4, Ideal.ofBits_one_f32,
    decide_eq_true half_lt_one]
  match k with
  | 0 => simp [Scalar.select]
  | 1 => simp [Scalar.select]
  | 2 => simp [Scalar.select]

/-- A size channel of the box row: the exponential of the offset times the anchor's size. -/
theorem row_size (k : Fin 3) (hn : n.val = a.val * 7 + (3 + k.val)) (hr : r.val = a.val * 6 + (3 + k.val)) :
    row x z w1 b1 w2 b2 v (ix5 0 0 0 n y)
      = Ideal.exp (regRow (F := Ideal) w1 b1 w2 b2 v (ix2 r y)) * Ideal.ofBits .f32 (sizeWord a k) := by
  obtain ⟨h0, h1⟩ := word_size a k
  rw [row_placed x y z w1 b1 w2 b2 v a n r ⟨3 + k.val, by omega⟩ hn hr, h0, h1, Ideal.ofBits_zero_f32,
    decide_eq_false not_half_lt_zero]
  simp [Scalar.select]

/-- The logistic of an angle's offset times the cosine of the anchor's angle. -/
def turn (a : Fin 6) (p : EReal) : EReal := Ideal.div 1 (1 + Ideal.exp (-p)) * Ideal.ofBits .f32 (lit2 (S6.rowMajor (ix1 a)))

/-- The angle channel of the box row. -/
theorem row_angle (hn : n.val = a.val * 7 + 6) (hr : r.val = 36 + a.val) :
    row x z w1 b1 w2 b2 v (ix5 0 0 0 n y)
      = Ideal.atan2 (turn a (regRow (F := Ideal) w1 b1 w2 b2 v (ix2 r y)))
          (Ideal.sqrt (1 - turn a (regRow (F := Ideal) w1 b1 w2 b2 v (ix2 r y))
            * turn a (regRow (F := Ideal) w1 b1 w2 b2 v (ix2 r y)))) := by
  have hp : extractStridedSlice S6x200 ![36, 0] (regRow (F := Ideal) w1 b1 w2 b2 v) slices_S42x200_o36_0_S6x200
      (ix2 a y) = regRow (F := Ideal) w1 b1 w2 b2 v (ix2 r y) := by
    pointwise
    congr 2
    exact Fin.ext hr.symm
  have hc : Rows.cosine (F := Ideal) (cosines (F := Ideal))
      (extractStridedSlice S6x200 ![36, 0] (regRow (F := Ideal) w1 b1 w2 b2 v) slices_S42x200_o36_0_S6x200) (ix2 a y)
      = turn a (regRow (F := Ideal) w1 b1 w2 b2 v (ix2 r y)) := by
    rw [cosine_apply, hp, cosines_apply]
    rfl
  rw [row_eq_decode]
  unfold decode
  rw [interleave_angle _ _ a y n hn, angle_apply, hc]

end Channels

end Cert.KernelIdeal.Boxes

end
-- ==== Proof.Blocks.lean ====
/-
  From the body's twelve rows to the two whole arrays that the kernel leaves: at every index the class array is the class
  row of its batch element, first and third spatial index (`final_cls`), and the box array is the box row (`final_box`).
-/
module

public import proofs.«01_k».proof.Proof.Rows
public import Idealize.ShloMosaic.Lib.Pointwise
public import Idealize.ShloMosaic.Lib.Pipeline.ValueKit

@[expose] public section

set_option maxRecDepth 16384

noncomputable section

namespace Cert.KernelIdeal.Blocks

open Idealize.ShloMosaic Idealize.ShloMosaic.TcCoe
open Cert.KernelIdeal Cert.KernelIdeal.Gen Cert.KernelIdeal.Rows

variable {F : FTy → Type} [FloatOps F]

/-- The row at batch element `b`, first spatial index `h` and third spatial index `z` of an array laid out as batch, first
    axis, third axis, channel, second axis. -/
def rowAt {nb nh nz : Nat} (x : Vec F ⟨5, ![nb, nh, nz, 64, 200]⟩ .f32) (b : Fin nb) (h : Fin nh) (z : Fin nz) :
    Vec F S1x1x1x64x200 .f32 :=
  fun j => x (ix5 b h z (j 3) (j 4))

/-- The row loaded through `rowIn k` is row `11 - k` of the block. -/
theorem ld_rowIn (x0 : Vec F S1x12x1x64x200 .f32) (k : Fin 12) (h : Fin 12) (hk : h.val = 11 - k.val) :
    View.ld x0 (rowIn k) = rowAt x0 0 h 0 := by
  funext j
  refine View.ld_unit_apply_of x0 _ _ _ j _ fun a => ?_
  have h0 : (j 0 : Nat) = 0 := Nat.lt_one_iff.mp (j 0).isLt
  have h1 : (j 1 : Nat) = 0 := Nat.lt_one_iff.mp (j 1).isLt
  have h2 : (j 2 : Nat) = 0 := Nat.lt_one_iff.mp (j 2).isLt
  match a with
  | ⟨0, _⟩ => show 0 = 0 + (j 0 : Nat); omega
  | ⟨1, _⟩ => show h.val = 11 - k.val + (j 1 : Nat); omega
  | ⟨2, _⟩ => show 0 = 0 + (j 2 : Nat); omega
  | ⟨3, _⟩ => exact (Nat.zero_add _).symm
  | ⟨4, _⟩ => exact (Nat.zero_add _).symm

/-- Every row of a block is one of the twelve stored. -/
theorem row_cover (n : Nat) (y : (⟨5, ![1, 12, 1, n, 200]⟩ : Shape).Idx) :
    ∃ k : Fin 12, ∀ a : Fin 5, (![0, 11 - k.val, 0, 0, 0] : Fin 5 → Nat) a ≤ y a
      ∧ (y a : Nat) < (![0, 11 - k.val, 0, 0, 0] : Fin 5 → Nat) a + (![1, 1, 1, n, 200] : Fin 5 → Nat) a := by
  have h0 : (y 0 : Nat) < 1 := (y 0).isLt
  have h1 : (y 1 : Nat) < 12 := (y 1).isLt
  have h2 : (y 2 : Nat) < 1 := (y 2).isLt
  have h3 : (y 3 : Nat) < n := (y 3).isLt
  have h4 : (y 4 : Nat) < 200 := (y 4).isLt
  refine ⟨⟨11 - y 1, by omega⟩, fun a => ?_⟩
  match a with
  | ⟨0, _⟩ => exact ⟨Nat.zero_le _, by show (y 0 : Nat) < 0 + 1; omega⟩
  | ⟨1, _⟩ => exact ⟨by show 11 - (11 - (y 1 : Nat)) ≤ y 1; omega, by show (y 1 : Nat) < 11 - (11 - y 1) + 1; omega⟩
  | ⟨2, _⟩ => exact ⟨Nat.zero_le _, by show (y 2 : Nat) < 0 + 1; omega⟩
  | ⟨3, _⟩ => exact ⟨Nat.zero_le _, by show (y 3 : Nat) < 0 + n; omega⟩
  | ⟨4, _⟩ => exact ⟨Nat.zero_le _, by show (y 4 : Nat) < 0 + 200; omega⟩

/-- The local index of a row's store, from the block's index: the last two coordinates. -/
theorem row_index (n : Nat) (k : Fin 12) (y : (⟨5, ![1, 12, 1, n, 200]⟩ : Shape).Idx)
    (x : (⟨5, ![1, 1, 1, n, 200]⟩ : Shape).Idx)
    (hx : ∀ a : Fin 5, (y a : Nat) = (![0, 11 - k.val, 0, 0, 0] : Fin 5 → Nat) a + x a) :
    x = ix5 0 0 0 (y 3) (y 4) ∧ (y 1).val = 11 - k.val := by
  have h0 : (x 0 : Nat) < 1 := (x 0).isLt
  have h1 : (x 1 : Nat) < 1 := (x 1).isLt
  have h2 : (x 2 : Nat) < 1 := (x 2).isLt
  have e1 : (y 1 : Nat) = 11 - k.val + x 1 := hx 1
  have e3 : (y 3 : Nat) = 0 + x 3 := hx 3
  have e4 : (y 4 : Nat) = 0 + x 4 := hx 4
  refine ⟨funext fun a => Fin.ext ?_, by omega⟩
  match a with
  | ⟨0, _⟩ => show (x 0 : Nat) = 0; omega
  | ⟨1, _⟩ => show (x 1 : Nat) = 0; omega
  | ⟨2, _⟩ => show (x 2 : Nat) = 0; omega
  | ⟨3, _⟩ => show (x 3 : Nat) = y 3; omega
  | ⟨4, _⟩ => show (x 4 : Nat) = y 4; omega

section Body

variable (i : grid0.Coords) (x0 : Vec F S1x12x1x64x200 .f32) (x1 : Vec F S64x64 .f32) (x2 : Vec F S64x1 .f32)
  (x3 : Vec F S24x64 .f32) (x4 : Vec F S24x1 .f32) (x5 : Vec F S64x64 .f32) (x6 : Vec F S64x1 .f32)
  (x7 : Vec F S42x64 .f32) (x8 : Vec F S42x1 .f32) (x9 : Vec F S36x5 .f32) (x10 : Vec F S6x1 .f32)

/-- The class block at an index: the class row of the row named by the second coordinate. -/
theorem cls_block (y : S1x12x1x24x200.Idx) : out0_11 i x0 x1 x2 x3 x4 x5 x6 x7 x8 x9 x10 y
    = clsRow x1 x2 x3 x4 (rowAt x0 0 (y 1) 0) (ix5 0 0 0 (y 3) (y 4)) := by
  rw [out_cls]
  refine View.canon_ofFn_unit_eq_of_forall _ _ _ _ y _ (row_cover 24 y) fun k x hx => ?_
  obtain ⟨e, h⟩ := row_index 24 k y x hx
  subst e
  rw [View.ld_unit_lit _ x1 (by decide), View.ld_unit_lit _ x2 (by decide), View.ld_unit_lit _ x3 (by decide),
    View.ld_unit_lit _ x4 (by decide), ld_rowIn x0 k (y 1) h]
  rfl

/-- The box block at an index: the box row of the row named by the second coordinate. -/
theorem box_block (y : S1x12x1x42x200.Idx) : out0_12 i x0 x1 x2 x3 x4 x5 x6 x7 x8 x9 x10 y
    = boxRow (BitVec.ofNat 32 ((i 1).val * 12 + (y 1).val)) (BitVec.ofNat 32 (i 2).val) x5 x6 x7 x8 x9 x10
        (rowAt x0 0 (y 1) 0) (ix5 0 0 0 (y 3) (y 4)) := by
  rw [out_box]
  refine View.canon_ofFn_unit_eq_of_forall _ _ _ _ y _ (row_cover 42 y) fun k x hx => ?_
  obtain ⟨e, h⟩ := row_index 42 k y x hx
  subst e
  rw [View.ld_unit_lit _ x5 (by decide), View.ld_unit_lit _ x6 (by decide), View.ld_unit_lit _ x7 (by decide),
    View.ld_unit_lit _ x8 (by decide), View.ld_unit_lit _ x10 (by decide), ld_rowIn x0 k (y 1) h, ← h]
  congr 1
  rw [BitVec.ofNat_add, BitVec.ofNat_mul]
  rfl

end Body

section Arrays

variable (m : (ℓ : Loc nD τ sig) → Buf (Elt F) ℓ) (c : Dev nD)

theorem index0 : ∀ t : Fin cfg0.N, win0_0.index t
    = ![(grid0.coords t 0).val, (grid0.coords t 1).val, (grid0.coords t 2).val, 0, 0] :=
  (by decide +kernel : ∀ t : Fin grid0.N, _)

theorem index11 : ∀ t : Fin cfg0.N, win0_11.index t
    = ![(grid0.coords t 0).val, (grid0.coords t 1).val, (grid0.coords t 2).val, 0, 0] :=
  (by decide +kernel : ∀ t : Fin grid0.N, _)

theorem index12 : ∀ t : Fin cfg0.N, win0_12.index t
    = ![(grid0.coords t 0).val, (grid0.coords t 1).val, (grid0.coords t 2).val, 0, 0] :=
  (by decide +kernel : ∀ t : Fin grid0.N, _)

/-- Each of the windows 1 to 10 is a whole array: its block index is zero at every grid point. -/
theorem index_whole : ∀ t : Fin cfg0.N, win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] :=
  (by decide +kernel : ∀ t : Fin grid0.N, _)

set_option maxHeartbeats 2000000 in
/-- The block of each of the windows 1 to 10, at every grid point, is its whole array. -/
theorem iblk_whole (t : Fin cfg0.N) : iblk m c 1 t = V m c main_v8 ∧ iblk m c 2 t = V m c main_v13
    ∧ iblk m c 3 t = V m c main_arg7 ∧ iblk m c 4 t = V m c main_v26 ∧ iblk m c 5 t = V m c main_v20
    ∧ iblk m c 6 t = V m c main_v25 ∧ iblk m c 7 t = V m c main_v33 ∧ iblk m c 8 t = V m c main_v41
    ∧ iblk m c 9 t = V m c main_cst ∧ iblk m c 10 t = V m c main_v0 := by
  obtain ⟨h1, h2, h3, h4, h5, h6, h7, h8, h9, h10⟩ := index_whole t
  refine ⟨?_, ?_, ?_, ?_, ?_, ?_, ?_, ?_, ?_, ?_⟩ <;>
    (funext y; blk_simp [iblk]; refine congrArg (V m c _) ?_; blk_ext [h1, h2, h3, h4, h5, h6, h7, h8, h9, h10])

/-- The input's block at grid point `t` is the twelve rows from `12 * t₁` of its batch element and third index. -/
theorem iblk_row (t : Fin cfg0.N) (k : Fin 12) (b : Fin 2) (h : Fin 180) (z : Fin 5) (hb : b.val = (grid0.coords t 0).val)
    (hh : h.val = (grid0.coords t 1).val * 12 + k.val) (hz : z.val = (grid0.coords t 2).val) :
    rowAt (nb := 1) (nh := 12) (nz := 1) (iblk m c 0 t) 0 k 0
      = rowAt (nb := 2) (nh := 180) (nz := 5) (V m c main_v1) b h z := by
  funext j
  unfold rowAt
  blk_simp [iblk]
  refine congrArg (V m c main_v1) (funext fun a => Fin.ext ?_)
  match a with
  | ⟨0, _⟩ => blk_simp [index0]; exact hb.symm
  | ⟨1, _⟩ => blk_simp [index0]; exact hh.symm
  | ⟨2, _⟩ => blk_simp [index0]; exact hz.symm
  | ⟨3, _⟩ => blk_simp [index0]
  | ⟨4, _⟩ => blk_simp [index0]

/-- The class array that the kernel leaves: at every index the class row of its batch element and spatial indices. -/
theorem final_cls : (dats m 0 c).arrAt 11 cfg0.N = fun i : S2x180x5x24x200.Idx =>
    clsRow (V m c main_v8) (V m c main_v13) (V m c main_arg7) (V m c main_v26)
      (rowAt (nb := 2) (nh := 180) (nz := 5) (V m c main_v1) (i 0) (i 1) (i 2)) (ix5 0 0 0 (i 3) (i 4)) := by
  refine (dats m 0 c).arrAt_eq_of_covers 11 _ (by decide +kernel) fun t hf y => ?_
  blk_simp
  obtain ⟨h1, h2, h3, h4, -⟩ := iblk_whole m c t
  have y0 : (y 0 : Nat) < 1 := (y 0).isLt
  have y2 : (y 2 : Nat) < 1 := (y 2).isLt
  have e0 : ((win0_11.blk t).view.emb y 0).val = (grid0.coords t 0).val := by blk_simp [index11]
  have e1 : ((win0_11.blk t).view.emb y 1).val = (grid0.coords t 1).val * 12 + (y 1).val := by blk_simp [index11]
  have e2 : ((win0_11.blk t).view.emb y 2).val = (grid0.coords t 2).val := by blk_simp [index11]
  have e3 : (win0_11.blk t).view.emb y 3 = y 3 := Fin.ext (by blk_simp [index11])
  have e4 : (win0_11.blk t).view.emb y 4 = y 4 := Fin.ext (by blk_simp [index11])
  rw [after0_11, cls_block, h1, h2, h3, h4, iblk_row m c t (y 1) _ _ _ e0 e1 e2, e3, e4]

/-- The box array that the kernel leaves: at every index the box row of its batch element and spatial indices. -/
theorem final_box : (dats m 0 c).arrAt 12 cfg0.N = fun i : S2x180x5x42x200.Idx =>
    boxRow (BitVec.ofNat 32 (i 1).val) (BitVec.ofNat 32 (i 2).val) (V m c main_v20) (V m c main_v25) (V m c main_v33)
      (V m c main_v41) (V m c main_cst) (V m c main_v0)
      (rowAt (nb := 2) (nh := 180) (nz := 5) (V m c main_v1) (i 0) (i 1) (i 2)) (ix5 0 0 0 (i 3) (i 4)) := by
  refine (dats m 0 c).arrAt_eq_of_covers 12 _ (by decide +kernel) fun t hf y => ?_
  blk_simp
  obtain ⟨-, -, -, -, h5, h6, h7, h8, h9, h10⟩ := iblk_whole m c t
  have y0 : (y 0 : Nat) < 1 := (y 0).isLt
  have y2 : (y 2 : Nat) < 1 := (y 2).isLt
  have e0 : ((win0_12.blk t).view.emb y 0).val = (grid0.coords t 0).val := by blk_simp [index12]
  have e1 : ((win0_12.blk t).view.emb y 1).val = (grid0.coords t 1).val * 12 + (y 1).val := by blk_simp [index12]
  have e2 : ((win0_12.blk t).view.emb y 2).val = (grid0.coords t 2).val := by blk_simp [index12]
  have e3 : (win0_12.blk t).view.emb y 3 = y 3 := Fin.ext (by blk_simp [index12])
  have e4 : (win0_12.blk t).view.emb y 4 = y 4 := Fin.ext (by blk_simp [index12])
  have i1 : win0_12.index t 1 = (grid0.coords t 1).val := by rw [index12]; rfl
  have i2 : win0_12.index t 2 = (grid0.coords t 2).val := by rw [index12]; rfl
  rw [after0_12, box_block, h5, h6, h7, h8, h9, h10, iblk_row m c t (y 1) _ _ _ e0 e1 e2, e3, e4, i1, i2]

end Arrays

end Cert.KernelIdeal.Blocks

end
-- ==== Proof.Run.lean ====
/-
  The kernel's run: after every run the two results are the transposed arrays that the grid leaves, and the arguments are as
  launched.
-/
module

public import proofs.«01_k».proof.Proof.Gen.KernelIdeal.Frame
public import Idealize.ShloMosaic.Lib.StableHlo.Run
public import Idealize.ShloMosaic.Lib.Pipeline.ValueKit

@[expose] public section

set_option maxRecDepth 16384

noncomputable section

namespace Cert.KernelIdeal.Run

open Idealize.ShloMosaic Idealize.ShloMosaic.TcCoe Idealize.SL.Sem
open Cert.KernelIdeal Cert.KernelIdeal.Gen

variable {F : FTy → Type} [FloatOps F] (m : (ℓ : Loc nD τ sig) → Buf (Elt F) ℓ)

/-- The class scores that the program returns. -/
def clsOut (c : Dev nD) : FVec F S2x180x200x5x24 .f32 :=
  transpose S2x180x200x5x24 [0, 1, 4, 2, 3] ((dats m 0 c).arrAt 11 cfg0.N) transposes_S2x180x5x24x200_S2x180x200x5x24_0_1_4_2_3

/-- The boxes that the program returns. -/
def boxOut (c : Dev nD) : FVec F S2x180x200x5x42 .f32 :=
  transpose S2x180x200x5x42 [0, 1, 4, 2, 3] ((dats m 0 c).arrAt 12 cfg0.N) transposes_S2x180x5x42x200_S2x180x200x5x42_0_1_4_2_3

/-- The windows' arrays are distinct. -/
theorem arr_inj : Function.Injective (Pipeline.arrRef spec0) := by decide

/-- The last lines leave the class scores in the first result. -/
theorem tail_cls (c : Dev nD) : Pipeline.afterTail₀ cfgs (dats m) 0 (V0 m) [hostOps1] c main_v43 = clsOut m c := by
  show StableHlo.after hostOps1 _ (Proc.devRef .tc main_v43) = _
  after_results
  rw [clsOut]
  exact congrArg (transpose S2x180x200x5x24 [0, 1, 4, 2, 3] · transposes_S2x180x5x24x200_S2x180x200x5x24_0_1_4_2_3)
    (Pipeline.withArrays_arr spec0 arr_inj c (V0 m c) (fun w => (dats m 0 c).arrAt w cfg0.N) 11)

/-- The last lines leave the boxes in the second result. -/
theorem tail_box (c : Dev nD) : Pipeline.afterTail₀ cfgs (dats m) 0 (V0 m) [hostOps1] c main_v44 = boxOut m c := by
  show StableHlo.after hostOps1 _ (Proc.devRef .tc main_v44) = _
  after_results
  rw [boxOut]
  exact congrArg (transpose S2x180x200x5x42 [0, 1, 4, 2, 3] · transposes_S2x180x5x42x200_S2x180x200x5x42_0_1_4_2_3)
    (Pipeline.withArrays_arr spec0 arr_inj c (V0 m c) (fun w => (dats m 0 c).arrAt w cfg0.N) 12)

/-- Every run leaves the two results at `clsOut` and `boxOut`. -/
theorem results (ρ : Dev nD → PrngReg) :
    θ_run defs (onTc (τ := τ) (main (F := F))) ⟨m, fun _ => 0, ρ⟩ fun r => ∀ c : Dev nD,
      r.2.mem ((c.tc : Thread nD τ).loc main_v43) = clsOut m c ∧ r.2.mem ((c.tc : Thread nD τ).loc main_v44) = boxOut m c :=
  (θ_run defs _ _).mono
    (fun _ h c => ⟨(h.rest_eq c main_v43 (by decide)).trans (tail_cls m c), (h.rest_eq c main_v44 (by decide)).trans (tail_box m c)⟩)
    (run_main m ρ)

end Cert.KernelIdeal.Run

end
-- ==== Proof.Fold.lean ====
/-
  The normalisation folded into a layer: for finite weights, inputs, means and scales, normalising the layer's output is the
  same as the layer with scaled weights and a shifted bias, whatever the biases, in the extended reals.
-/
module

public import Idealize.ShloMosaic.PureOps.Ideal

@[expose] public section

noncomputable section

namespace Cert.Fold

open Idealize.ShloMosaic

/-- A value between the infinities. -/
def Finite (x : EReal) : Prop := ∃ r : ℝ, x = r

/-- A value whose magnitude is below infinity is finite. -/
theorem finite_of_max_lt {x : EReal} (h : max x (-x) < ⊤) : Finite x := by
  induction x with
  | bot => simp at h
  | top => simp at h
  | coe r => exact ⟨r, rfl⟩

/-- Multiplying by a real number distributes over a sum of a real number and any extended real. -/
theorem coe_add_mul_coe (a s : ℝ) (b : EReal) : ((a : EReal) + b) * s = ((a * s : ℝ) : EReal) + b * s := by
  induction b with
  | coe r => rw [← EReal.coe_add, ← EReal.coe_mul, ← EReal.coe_mul, ← EReal.coe_add, add_mul]
  | bot =>
    rw [EReal.add_bot]
    rcases lt_trichotomy s 0 with h | h | h
    · rw [EReal.bot_mul_coe_of_neg h, EReal.coe_add_top]
    · subst h; simp
    · rw [EReal.bot_mul_coe_of_pos h, EReal.add_bot]
  | top =>
    rw [EReal.coe_add_top]
    rcases lt_trichotomy s 0 with h | h | h
    · rw [EReal.top_mul_coe_of_neg h, EReal.add_bot]
    · subst h; simp
    · rw [EReal.top_mul_coe_of_pos h, EReal.coe_add_top]

/-- A sum of products of real numbers is the real sum. -/
theorem sum_coe {ι : Type} [Fintype ι] (f : ι → ℝ) : ∑ i, (f i : EReal) = ((∑ i, f i : ℝ) : EReal) :=
  (map_sum (⟨⟨Real.toEReal, EReal.coe_zero⟩, EReal.coe_add⟩ : ℝ →+ EReal) f Finset.univ).symm

/-- The reciprocal square root of a positive value is finite. -/
theorem finite_rsqrt {x : EReal} (h : 0 < x) : Finite (Ideal.rsqrt x) := by
  induction x with
  | bot => simp at h
  | top => exact ⟨0, rfl⟩
  | coe r =>
    have hr : 0 < r := EReal.coe_pos.mp h
    rw [Ideal.rsqrt_coe, if_neg hr.not_gt, if_neg hr.ne']
    exact ⟨_, rfl⟩

/-- A product of finite values is finite. -/
theorem Finite.mul {x y : EReal} (hx : Finite x) (hy : Finite y) : Finite (x * y) := by
  obtain ⟨a, rfl⟩ := hx
  obtain ⟨b, rfl⟩ := hy
  exact ⟨a * b, (EReal.coe_mul a b).symm⟩

/-- Normalising a layer's output is the layer with each weight scaled and the bias scaled and shifted: the weights `w`, inputs
    `x`, mean `m` and scale `s` are finite, the bias `b` and the shift `be` are any extended reals. -/
theorem folded {ι : Type} [Fintype ι] (w x : ι → EReal) (m s b be : EReal) (hw : ∀ i, Finite (w i)) (hx : ∀ i, Finite (x i))
    (hm : Finite m) (hs : Finite s) :
    ∑ i, w i * s * x i + (b * s + (be - m * s)) = (∑ i, w i * x i + b - m) * s + be := by
  choose w' hw using hw
  choose x' hx using hx
  obtain ⟨m, rfl⟩ := hm
  obtain ⟨s, rfl⟩ := hs
  have e1 : ∑ i, w i * (s : EReal) * x i = (((∑ i, w' i * x' i) * s : ℝ) : EReal) := by
    rw [Finset.sum_mul, ← sum_coe]
    refine Finset.sum_congr rfl fun i _ => ?_
    rw [hw, hx, ← EReal.coe_mul, ← EReal.coe_mul, mul_right_comm]
  have e2 : ∑ i, w i * x i = ((∑ i, w' i * x' i : ℝ) : EReal) := by
    rw [← sum_coe]
    exact Finset.sum_congr rfl fun i _ => by rw [hw, hx, ← EReal.coe_mul]
  rw [e1, e2]
  generalize (∑ i, w' i * x' i) = A
  have e3 : (A : EReal) + b - m = ((A - m : ℝ) : EReal) + b := by
    rw [sub_eq_add_neg, sub_eq_add_neg, EReal.coe_add, EReal.coe_neg, add_right_comm]
  have e4 : be - (m : EReal) * s = be + ((-(m * s) : ℝ) : EReal) := by
    rw [sub_eq_add_neg, ← EReal.coe_mul, ← EReal.coe_neg]
  have e5 : (A - m) * s = A * s + -(m * s) := by ring
  rw [e3, coe_add_mul_coe, e4, e5, EReal.coe_add]
  abel

end Cert.Fold

end
-- ==== Proof.Pre.lean ====
/-
  What the precondition says of the launched arguments, in the extended reals: the input, and each head's first weights, scales
  and means, are finite, and each head's variances plus the small constant are positive.
-/
module

public import proofs.«01_k».proof.Defs
public import proofs.«01_k».proof.Proof.Fold
public import Idealize.ShloMosaic.Lib.Pointwise

@[expose] public section

noncomputable section

namespace Cert.Pre_finite_and_positive_variance

open Idealize.ShloMosaic

/-- The shapes that the precondition broadcasts between. -/
theorem facts : Facts := ⟨by decide, by decide, by decide⟩

/-- Positive infinity's word is the top value. -/
theorem ofBits_top : Ideal.ofBits .f32 0x7F800000#32 = ⊤ := by simp [Ideal.ofBits, Ideal.ieee]

/-- An array whose magnitudes are all below infinity is finite at every index. -/
theorem finite_of_olt {s : Shape} (a : FVec Ideal s .f32) (h : S_.BroadcastsInDim s (![] : Fin 0 → Fin s.rank))
    (e : cmpf .olt (Host.absf a) (broadcastInDim s ![] h (constant S_ .f32 0x7F800000#32)) = fun _ => 1#1) (i : s.Idx) :
    Fold.Finite (a i) := by
  have ei : BitVec.ofBool (decide (max (a i) (-(a i)) < Ideal.ofBits .f32 0x7F800000#32)) = 1#1 := congrFun e i
  rw [ofBits_top] at ei
  refine Fold.finite_of_max_lt ?_
  by_contra hn
  rw [decide_eq_false hn] at ei
  exact absurd ei (by decide)

/-- A variance that compares above zero, once the small constant is added, is positive then. -/
theorem pos_of_ogt (v : FVec Ideal S64 .f32) (h : S_.BroadcastsInDim S64 (![] : Fin 0 → Fin S64.rank))
    (e : cmpf .ogt (addf v (broadcastInDim S64 ![] h (constant S_ .f32 0x3727C5AC#32)))
      (broadcastInDim S64 ![] h (constant S_ .f32 0x00000000#32)) = fun _ => 1#1) (i : S64.Idx) :
    0 < v i + Ideal.ofBits .f32 0x3727C5AC#32 := by
  have ei : BitVec.ofBool (decide (Ideal.ofBits .f32 0x00000000#32 < v i + Ideal.ofBits .f32 0x3727C5AC#32)) = 1#1 :=
    congrFun e i
  rw [Ideal.ofBits_zero_f32] at ei
  by_contra hn
  rw [decide_eq_false hn] at ei
  exact absurd ei (by decide)

/-- What the folded normalisation of one head needs: finite inputs, weights, scales and means, and positive variances. -/
structure Foldable (x : FVec Ideal S2x64x180x200x5 .f32) (w : FVec Ideal S64x64 .f32) (g mean v : FVec Ideal S64 .f32) : Prop where
  input : ∀ i, Fold.Finite (x i)
  weight : ∀ i, Fold.Finite (w i)
  scale : ∀ i, Fold.Finite (g i)
  mean : ∀ i, Fold.Finite (mean i)
  variance : ∀ i, 0 < v i + Ideal.ofBits .f32 0x3727C5AC#32

section Heads

open Cert.KernelIdeal

variable (m : (ℓ : Loc nD τ sig) → Buf (Elt Ideal) ℓ)
  (h : Pre_KernelIdeal_finite_and_positive_variance (hPre_finite_and_positive_variance := facts) m) (c : Dev nD)

include h

/-- The class head's arguments are foldable under the precondition. -/
theorem foldable_cls : Foldable (m ((c.tc : Thread nD τ).loc main_arg0)) (m ((c.tc : Thread nD τ).loc main_arg1))
    (m ((c.tc : Thread nD τ).loc main_arg3)) (m ((c.tc : Thread nD τ).loc main_arg5)) (m ((c.tc : Thread nD τ).loc main_arg6)) := by
  obtain ⟨h0, h1, h3, h5, h6, -⟩ := h c
  exact ⟨finite_of_olt _ _ h0, finite_of_olt _ _ h1, finite_of_olt _ _ h3, finite_of_olt _ _ h5, pos_of_ogt _ _ h6⟩

/-- The box head's arguments are foldable under the precondition. -/
theorem foldable_box : Foldable (m ((c.tc : Thread nD τ).loc main_arg0)) (m ((c.tc : Thread nD τ).loc main_arg9))
    (m ((c.tc : Thread nD τ).loc main_arg11)) (m ((c.tc : Thread nD τ).loc main_arg13)) (m ((c.tc : Thread nD τ).loc main_arg14)) := by
  obtain ⟨h0, -, -, -, -, h9, h11, h13, h14⟩ := h c
  exact ⟨finite_of_olt _ _ h0, finite_of_olt _ _ h9, finite_of_olt _ _ h11, finite_of_olt _ _ h13, pos_of_ogt _ _ h14⟩

end Heads

end Cert.Pre_finite_and_positive_variance

end
-- ==== Proof.Equal.lean ====
/-
  The two programs' results agree, in the extended reals: the hidden layers by folding the normalisation, the class scores
  channel by channel, and the boxes by the kind of each channel.
-/
module

public import proofs.«01_k».proof.Proof.Boxes
public import proofs.«01_k».proof.Proof.Blocks
public import proofs.«01_k».proof.Proof.Run
public import proofs.«01_k».proof.Proof.Pre

@[expose] public section

set_option maxRecDepth 16384

noncomputable section

namespace Cert.KernelIdeal.Equal

open Idealize.ShloMosaic Idealize.ShloMosaic.TcCoe
open Cert.KernelIdeal Cert.KernelIdeal.Gen Cert.KernelIdeal.Rows Cert.KernelIdeal.Prefix Cert.KernelIdeal.RowsAt
open Cert.KernelIdeal.Boxes Cert.KernelIdeal.Blocks
open Cert.Pre_finite_and_positive_variance (Foldable)

section Layers

variable (i : Fin 2) (x : Fin 180) (y : Fin 200) (z : Fin 5) (X : FVec Ideal S2x64x180x200x5 .f32)

/-- The row of the transposed input at batch element `i`, first index `x` and third index `z`. -/
abbrev inputRow : FVec Ideal S1x1x1x64x200 .f32 :=
  rowAt (F := Ideal) (nb := 2) (nh := 180) (nz := 5)
    (transpose S2x180x5x64x200 [0, 2, 4, 1, 3] X transposes_S2x64x180x200x5_S2x180x5x64x200_0_2_4_1_3) i x z

/-- An entry of the row is the input's. -/
theorem inputRow_apply (o : Fin 64) : inputRow i x z X (ix5 0 0 0 o y) = X (ix5 i o x y z) := by
  unfold inputRow rowAt
  pointwise

variable (w : FVec Ideal S64x64 .f32) (b g be mean v : FVec Ideal S64 .f32) (hf : Foldable X w g mean v)

include hf

/-- The hidden layer with the folded normalisation is the normalised hidden layer. -/
theorem hidden_eq (o : Fin 64) :
    Rows.hidden (F := Ideal) (foldW w g v) (foldB b g be mean v) (inputRow i x z X) (ix2 o y)
      = Cert.ReferenceIdeal.Stages.hidden X w b g be mean v (ix5 i o x y z) := by
  rw [hidden_apply, Cert.ReferenceIdeal.RefAt.hidden_apply, foldB_apply]
  simp only [foldW_apply, inputRow_apply i x y z X]
  rw [Fold.folded (fun c => w (ix2 o c)) (fun c => X (ix5 i c x y z)) _ _ _ _ (fun c => hf.weight _) (fun c => hf.input _)
    (hf.mean _) ((hf.scale _).mul (Fold.finite_rsqrt (hf.variance _)))]

/-- The class row is the reference's class scores. -/
theorem cls_eq (w2 : FVec Ideal S24x64 .f32) (b2 : FVec Ideal S24 .f32) (n : Fin 24) :
    clsRow (F := Ideal) (foldW w g v) (foldB b g be mean v) w2 (broadcastInDim S24x1 ![0] bcast_S24_S24x1_0 b2) (inputRow i x z X)
        (ix5 0 0 0 n y)
      = Cert.ReferenceIdeal.Stages.scores (Cert.ReferenceIdeal.Stages.hidden X w b g be mean v) w2 b2 (ix5 i x y z n) := by
  have hb : broadcastInDim S24x1 ![0] bcast_S24_S24x1_0 b2 (ix2 n 0) = b2 (ix1 n) := by pointwise
  rw [clsRow_apply, Cert.ReferenceIdeal.RefAt.scores_apply, hb]
  simp only [hidden_eq i x y z X w b g be mean v hf]

/-- A row of the reordered offsets is the reference's offset that it comes from. -/
theorem offset_eq (w2 : FVec Ideal S42x64 .f32) (b2 : FVec Ideal S42 .f32) (a : Fin 6) (k : Fin 7) (r : Fin 42)
    (hr : (source r).val = a.val * 7 + k.val) :
    regRow (F := Ideal) (foldW w g v) (foldB b g be mean v) (permW w2) (permB b2) (inputRow i x z X) (ix2 r y)
      = Cert.ReferenceIdeal.Stages.offsets (Cert.ReferenceIdeal.Stages.hidden X w b g be mean v) w2 b2 (ix6 i x y z a k) := by
  rw [regRow_apply, Cert.ReferenceIdeal.RefAt.offsets_apply i x y z _ w2 b2 a k (source r) hr, permB_apply]
  simp only [hidden_eq i x y z X w b g be mean v hf, permW_apply]

omit hf in
/-- Row `6 a + k` of the reordered weights is channel `7 a + k`. -/
theorem source_placed (a k : Fin 6) : (source ⟨a.val * 6 + k.val, by omega⟩).val = a.val * 7 + k.val := by
  revert a k; decide

omit hf in
/-- Row `36 + a` of the reordered weights is channel `7 a + 6`. -/
theorem source_angle (a : Fin 6) : (source ⟨36 + a.val, by omega⟩).val = a.val * 7 + 6 := by
  revert a; decide

/-- The box row is the reference's decoded boxes. -/
theorem box_eq (w2 : FVec Ideal S42x64 .f32) (b2 : FVec Ideal S42 .f32) (n : Fin 42) :
    row x z (foldW w g v) (foldB b g be mean v) (permW w2) (permB b2) (inputRow i x z X) (ix5 0 0 0 n y)
      = Cert.ReferenceIdeal.Stages.decoded (Cert.ReferenceIdeal.Stages.offsets (Cert.ReferenceIdeal.Stages.hidden X w b g be mean v) w2 b2) (ix5 i x y z n) := by
  obtain ⟨a, k, hn⟩ : ∃ (a : Fin 6) (k : Fin 7), n.val = a.val * 7 + k.val :=
    ⟨⟨n.val / 7, by omega⟩, ⟨n.val % 7, by omega⟩, by dsimp only; omega⟩
  have off := offset_eq i x y z X w b g be mean v hf w2 b2 a
  rcases Nat.lt_or_ge k.val 3 with hk | hk
  · rw [row_position x y z _ _ _ _ _ a n ⟨a.val * 6 + k.val, by omega⟩ ⟨k.val, hk⟩ hn rfl,
      Cert.ReferenceIdeal.RefAt.decoded_position i x y z _ a n ⟨k.val, hk⟩ hn,
      off ⟨k.val, by omega⟩ _ (source_placed a ⟨k.val, by omega⟩)]
  · rcases Nat.lt_or_ge k.val 6 with hk' | hk'
    · have e : 3 + (k.val - 3) = k.val := by omega
      have hn' : n.val = a.val * 7 + (3 + (k.val - 3)) := by rw [e]; exact hn
      rw [row_size x y z _ _ _ _ _ a n ⟨a.val * 6 + (3 + (k.val - 3)), by omega⟩ ⟨k.val - 3, by omega⟩ hn' rfl,
        Cert.ReferenceIdeal.RefAt.decoded_size i x y z _ a n ⟨k.val - 3, by omega⟩ hn',
        off ⟨3 + (k.val - 3), by omega⟩ _ (source_placed a ⟨3 + (k.val - 3), by omega⟩)]
    · have hn' : n.val = a.val * 7 + 6 := by have := k.isLt; omega
      rw [row_angle x y z _ _ _ _ _ a n ⟨36 + a.val, by omega⟩ hn' rfl,
        Cert.ReferenceIdeal.RefAt.decoded_angle i x y z _ a n hn', Cert.ReferenceIdeal.RefAt.cosine_apply,
        off 6 _ (source_angle a)]
      rfl

end Layers

section Results

variable (m : (ℓ : Loc nD τ sig) → Buf (Elt Ideal) ℓ)
  (h : Pre_KernelIdeal_finite_and_positive_variance
    (hPre_finite_and_positive_variance := Cert.Pre_finite_and_positive_variance.facts) m) (c : Dev nD)

include h

/-- The returned class scores are the reference's of the same arguments. -/
theorem clsOut_eq : Run.clsOut m c
    = Cert.ReferenceIdeal.Stages.scores (Cert.ReferenceIdeal.Stages.hidden (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)))
        (m ((c.tc : Thread nD τ).loc main_arg7)) (m ((c.tc : Thread nD τ).loc main_arg8)) := by
  refine funext fun (j : S2x180x200x5x24.Idx) => ?_
  obtain ⟨i, x, y, z, n, rfl⟩ : ∃ i x y z n, j = ix5 i x y z n := ⟨_, _, _, _, _, eq_ix5 j⟩
  rw [← cls_eq i x y z _ _ _ _ _ _ _ (Cert.Pre_finite_and_positive_variance.foldable_cls m h c)]
  unfold Run.clsOut
  rw [final_cls, V_w1c, V_b1c, V_main_arg7, V_b2c, V_x]
  pointwise

/-- The returned boxes are the reference's of the same arguments. -/
theorem boxOut_eq : Run.boxOut m c
    = Cert.ReferenceIdeal.Stages.decoded (Cert.ReferenceIdeal.Stages.offsets (Cert.ReferenceIdeal.Stages.hidden (m ((c.tc : Thread nD τ).loc main_arg0))
          (m ((c.tc : Thread nD τ).loc main_arg9)) (m ((c.tc : Thread nD τ).loc main_arg10))
          (m ((c.tc : Thread nD τ).loc main_arg11)) (m ((c.tc : Thread nD τ).loc main_arg12))
          (m ((c.tc : Thread nD τ).loc main_arg13)) (m ((c.tc : Thread nD τ).loc main_arg14)))
        (m ((c.tc : Thread nD τ).loc main_arg15)) (m ((c.tc : Thread nD τ).loc main_arg16))) := by
  refine funext fun (j : S2x180x200x5x42.Idx) => ?_
  obtain ⟨i, x, y, z, n, rfl⟩ : ∃ i x y z n, j = ix5 i x y z n := ⟨_, _, _, _, _, eq_ix5 j⟩
  rw [← box_eq i x y z _ _ _ _ _ _ _ (Cert.Pre_finite_and_positive_variance.foldable_box m h c)]
  unfold Run.boxOut
  rw [final_box, V_w1r, V_b1r, V_w2r, V_b2r, V_table, V_cosines, V_x]
  pointwise

end Results

end Cert.KernelIdeal.Equal

end
-- ==== Proof.Claims.lean ====
/-
  The claims: the three frames from the generated runs, and the equality of the two programs' results from the kernel's run, the
  reference's run and the equality of what they leave.
-/
module

public import proofs.«01_k».proof.Defs
public import proofs.«01_k».proof.Proof.Gen.Kernel.Frame
public import proofs.«01_k».proof.Proof.Equal

@[expose] public section

set_option maxRecDepth 16384

noncomputable section

namespace Cert.Proof

open Idealize.ShloMosaic Idealize.ShloMosaic.TcCoe Idealize.SL.Sem
open Cert.Pre_finite_and_positive_variance (facts)

/-- The program runs, leaves its arguments, and its counters end at zero. -/
theorem frame_kernel : Cert.quiescent_Kernel (hKernel := Cert.Kernel.Gen.facts) :=
  fun m ρ _ => Cert.Kernel.Gen.frame m ρ

/-- So does the program over the extended reals. -/
theorem frame_ideal : Cert.quiescent_KernelIdeal (hKernelIdeal := Cert.KernelIdeal.Gen.facts) :=
  fun m ρ _ => Cert.KernelIdeal.Gen.frame m ρ

/-- So does the program over the extended reals under the precondition. -/
theorem frame_ideal_pre : Cert.quiescent_KernelIdeal_pre_finite_and_positive_variance
    (hKernelIdeal := Cert.KernelIdeal.Gen.facts) (hPre_finite_and_positive_variance := facts) :=
  fun m ρ _ => Cert.KernelIdeal.Gen.frame m ρ

/-- The reference runs, leaves its arguments, and its counters end at zero. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- So does the reference under the precondition. -/
theorem frame_reference_pre : Cert.quiescent_ReferenceIdeal_pre_finite_and_positive_variance
    (hReferenceIdeal := Cert.ReferenceIdeal.Gen.facts) (hPre_finite_and_positive_variance := facts) := fun m ρ _ =>
  frame_reference m ρ trivial

/-- The program and the reference end with the same two results of the same arguments, over the extended reals, where the
    precondition holds. -/
theorem algebraic : Cert.algebraic_KernelIdeal_ReferenceIdeal_pre_finite_and_positive_variance
    (hKernelIdeal := Cert.KernelIdeal.Gen.facts) (hReferenceIdeal := Cert.ReferenceIdeal.Gen.facts)
    (hPre_finite_and_positive_variance := facts) := by
  intro m ρ m' ρ' hpre hagree
  refine ⟨fun c => Cert.KernelIdeal.Run.clsOut m c, fun c => Cert.KernelIdeal.Run.boxOut m c, ?_, ?_⟩
  · exact (θ_run Cert.KernelIdeal.defs _ _).mono (fun _ h c => ⟨(h.1 c).1, (h.1 c).2, h.2 c⟩)
      (θ_run_and (Cert.KernelIdeal.Run.results (F := Ideal) m ρ) (Cert.KernelIdeal.Gen.unchanged (F := Ideal) m ρ))
  · have e1 (c : Dev Cert.ReferenceIdeal.nD) : Cert.ReferenceIdeal.Stages.clsOut m' c = Cert.KernelIdeal.Run.clsOut m c := by
      obtain ⟨a0, a1, a2, a3, a4, a5, a6, a7, a8, -⟩ := hagree c
      rw [Cert.KernelIdeal.Equal.clsOut_eq m hpre c, Cert.ReferenceIdeal.Stages.clsOut, a0, a1, a2, a3, a4, a5, a6, a7, a8]
    have e2 (c : Dev Cert.ReferenceIdeal.nD) : Cert.ReferenceIdeal.Stages.boxOut m' c = Cert.KernelIdeal.Run.boxOut m c := by
      obtain ⟨a0, -, -, -, -, -, -, -, -, a9, a10, a11, a12, a13, a14, a15, a16⟩ := hagree c
      rw [Cert.KernelIdeal.Equal.boxOut_eq m hpre c, Cert.ReferenceIdeal.Stages.boxOut, a0, a9, a10, a11, a12, a13, a14, a15, a16]
    exact (θ_run Cert.ReferenceIdeal.defs _ _).mono
      (fun _ h c => ⟨(h c).1.trans (e1 c), (h c).2.1.trans ((Cert.ReferenceIdeal.Stages.res_eq_boxOut m' c).trans (e2 c)), (h c).2.2⟩)
      (Cert.ReferenceIdeal.Value.run (F := Ideal) m' ρ')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Claims
public import Idealize.ShloMosaic.Adequacy
public import Idealize.ShloMosaic.Init

@[expose] public section

noncomputable section

namespace Cert.Proof

open Idealize.ShloMosaic Idealize.SL.Sem Cert.Kernel

/-- The five claims hold. -/
theorem claim : Cert.Claim := ⟨Cert.Kernel.Gen.facts, Cert.KernelIdeal.Gen.facts, Cert.ReferenceIdeal.Gen.facts,
  Cert.Pre_finite_and_positive_variance.facts, frame_kernel, frame_ideal, frame_ideal_pre, frame_reference, frame_reference_pre,
  trivial, algebraic⟩

end Cert.Proof

end
